-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x2048 : Shape := ⟨3, ![2, 6144, 2048]⟩
abbrev S2048 : Shape := ⟨1, ![2048]⟩
abbrev S1536x8x2048 : Shape := ⟨3, ![1536, 8, 2048]⟩
abbrev S1x1x2048 : Shape := ⟨3, ![1, 1, 2048]⟩
abbrev S12288x2048 : Shape := ⟨2, ![12288, 2048]⟩
abbrev S96x128 : Shape := ⟨2, ![96, 128]⟩
abbrev S128x8x2048 : Shape := ⟨3, ![128, 8, 2048]⟩
abbrev S1024x2048 : Shape := ⟨2, ![1024, 2048]⟩
abbrev S8x128 : Shape := ⟨2, ![8, 128]⟩
abbrev S16x8x2048 : Shape := ⟨3, ![16, 8, 2048]⟩
abbrev S1x8x128 : Shape := ⟨3, ![1, 8, 128]⟩
abbrev S16x8x128 : Shape := ⟨3, ![16, 8, 128]⟩
abbrev S16x8 : Shape := ⟨2, ![16, 8]⟩
abbrev S16x8x1 : Shape := ⟨3, ![16, 8, 1]⟩
abbrev S128x2048 : Shape := ⟨2, ![128, 2048]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S2x6144x1 : Shape := ⟨3, ![2, 6144, 1]⟩

abbrev nBuf : Space → Nat
  | .hbm => 12
  | .vmem => 11
  | .smem => 0
  | _ => 0

abbrev bufTy : (tb : Table) → Fin (tcTables nBuf tb) → BufTy
  | .hbm, ⟨0, _⟩ => ⟨S2x6144x2048, .bf16⟩
  | .hbm, ⟨1, _⟩ => ⟨S2x6144x2048, .bf16⟩
  | .hbm, ⟨2, _⟩ => ⟨S2048, .f32⟩
  | .hbm, ⟨3, _⟩ => ⟨S1536x8x2048, .bf16⟩
  | .hbm, ⟨4, _⟩ => ⟨S1536x8x2048, .bf16⟩
  | .hbm, ⟨5, _⟩ => ⟨S1x1x2048, .f32⟩
  | .hbm, ⟨6, _⟩ => ⟨S1536x8x2048, .bf16⟩
  | .hbm, ⟨7, _⟩ => ⟨S12288x2048, .fp8e4m3⟩
  | .hbm, ⟨8, _⟩ => ⟨S96x128, .f32⟩
  | .hbm, ⟨9, _⟩ => ⟨S2x6144x2048, .bf16⟩
  | .hbm, ⟨10, _⟩ => ⟨S2x6144x2048, .fp8e4m3⟩
  | .hbm, ⟨11, _⟩ => ⟨S2x6144x1, .f32⟩
  | .local _ .vmem, ⟨0, _⟩ => ⟨S128x8x2048, .bf16⟩
  | .local _ .vmem, ⟨1, _⟩ => ⟨S128x8x2048, .bf16⟩
  | .local _ .vmem, ⟨2, _⟩ => ⟨S128x8x2048, .bf16⟩
  | .local _ .vmem, ⟨3, _⟩ => ⟨S128x8x2048, .bf16⟩
  | .local _ .vmem, ⟨4, _⟩ => ⟨S1x1x2048, .f32⟩
  | .local _ .vmem, ⟨5, _⟩ => ⟨S128x8x2048, .bf16⟩
  | .local _ .vmem, ⟨6, _⟩ => ⟨S128x8x2048, .bf16⟩
  | .local _ .vmem, ⟨7, _⟩ => ⟨S1024x2048, .fp8e4m3⟩
  | .local _ .vmem, ⟨8, _⟩ => ⟨S1024x2048, .fp8e4m3⟩
  | .local _ .vmem, ⟨9, _⟩ => ⟨S8x128, .f32⟩
  | .local _ .vmem, ⟨10, _⟩ => ⟨S8x128, .f32⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let c16_i32 : BitVec 32 := 16#32
  let v3 : BitVec 32 := Scalar.muli arg7 c16_i32
  let v4 : Index := Scalar.indexCast v3
  let c0_3 : Index := 0#32
  let c0_4 : Index := 0#32
  ![v4.toNat, 0, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_33 : BitVec 32 := 128#32
  let v1147 : BitVec 32 := Scalar.muli arg7 c128_i32_33
  let v1148 : Index := Scalar.indexCast v1147
  let c0_34 : Index := 0#32
  ![v1148.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let v1160 : Index := Scalar.indexCast arg7
  let c0_37 : Index := 0#32
  ![v1160.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x6144x2048 : Shape := ⟨3, ![2, 6144, 2048]⟩
abbrev S2048 : Shape := ⟨1, ![2048]⟩
abbrev S2x6144x1 : Shape := ⟨3, ![2, 6144, 1]⟩
abbrev S2x6144 : Shape := ⟨2, ![2, 6144]⟩
abbrev S1x1x2048 : Shape := ⟨3, ![1, 1, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x6144x2048, .bf16⟩
  | .hbm, ⟨1, _⟩ => ⟨S2x6144x2048, .bf16⟩
  | .hbm, ⟨2, _⟩ => ⟨S2048, .f32⟩
  | .hbm, ⟨3, _⟩ => ⟨S2x6144x2048, .bf16⟩
  | .hbm, ⟨4, _⟩ => ⟨S2x6144x2048, .fp8e4m3⟩
  | .hbm, ⟨5, _⟩ => ⟨S2x6144x1, .f32⟩
  | .local _ .vmem, ⟨0, _⟩ => ⟨S2x6144x2048, .bf16⟩
  | .local _ .vmem, ⟨1, _⟩ => ⟨S2x6144x2048, .bf16⟩
  | .local _ .vmem, ⟨2, _⟩ => ⟨S2048, .f32⟩
  | .local _ .vmem, ⟨3, _⟩ => ⟨S2x6144x2048, .bf16⟩
  | .local _ .vmem, ⟨4, _⟩ => ⟨S2x6144x2048, .fp8e4m3⟩
  | .local _ .vmem, ⟨5, _⟩ => ⟨S2x6144x1, .f32⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x6144x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Chunk.lean ====
/-
  What one trip of the kernel's loop computes, as functions of what it loads: the sixteen partial sums of squares the
  body builds lane block by lane block are one definition (`grp`) at sixteen row groups, and the trip's three stored
  payloads are `chunkCodes`, `chunkScales` and the residual stream itself over it.
-/
module

public import proofs.«01_k».proof.Proof.Gen.KernelIdeal.Skeleton
public import proofs.«01_k».proof.Proof.Gen.KernelIdeal

@[expose] public section

noncomputable section

namespace Cert.KernelIdeal.Chunk

open Idealize.ShloMosaic Cert.KernelIdeal Cert.KernelIdeal.Gen

variable {F : FTy → Type} [FloatOps F]

theorem slc (g c : Fin 16) : S16x8x2048.Slices ![g.val, 0, 128 * c.val] S1x8x128 :=
  ⟨rfl, fun a => by
    match a with
    | ⟨0, _⟩ => show g.val + 1 ≤ 16; omega
    | ⟨1, _⟩ => show 0 + 8 ≤ 8; omega
    | ⟨2, _⟩ => show 128 * c.val + 128 ≤ 2048; omega⟩

/-- Lane block `c` (128 lanes) of row group `g` (8 rows), squared elementwise. -/
def sqr (v19 : FVec F S16x8x2048 .f32) (g c : Fin 16) : FVec F S8x128 .f32 :=
  mulf (shapeCast S8x128 (extractStridedSlice S1x8x128 ![g.val, 0, 128 * c.val] v19 (slc g c)) shapeCasts_S1x8x128_S8x128)
    (shapeCast S8x128 (extractStridedSlice S1x8x128 ![g.val, 0, 128 * c.val] v19 (slc g c)) shapeCasts_S1x8x128_S8x128)

/-- Row group `g`: the even lane blocks' squares added up, the odd ones', and the two sums added. -/
def grp (v19 : FVec F S16x8x2048 .f32) (g : Fin 16) : FVec F S8x128 .f32 :=
  addf
    (addf (addf (addf (addf (addf (addf (addf (sqr v19 g 0) (sqr v19 g 2)) (sqr v19 g 4)) (sqr v19 g 6)) (sqr v19 g 8)) (sqr v19 g 10)) (sqr v19 g 12)) (sqr v19 g 14))
    (addf (addf (addf (addf (addf (addf (addf (sqr v19 g 1) (sqr v19 g 3)) (sqr v19 g 5)) (sqr v19 g 7)) (sqr v19 g 9)) (sqr v19 g 11)) (sqr v19 g 13)) (sqr v19 g 15))

theorem group0 (v17 : Vec F S16x8x2048 .bf16) : (k0_pay8 (k0_pay4 v17) (k0_pay5 v17) (k0_pay6 v17) (k0_pay7 v17)) = grp (k0_pay4 v17) 0 := rfl
theorem group1 (v19 : FVec F S16x8x2048 .f32) : (k0_pay12 v19 (k0_pay9 v19) (k0_pay10 v19) (k0_pay11 v19)) = grp v19 1 := rfl
theorem group2 (v19 : FVec F S16x8x2048 .f32) : (k0_pay17 v19 (k0_pay13 v19) (k0_pay14 v19) (k0_pay15 v19) (k0_pay16 v19)) = grp v19 2 := rfl
theorem group3 (v19 : FVec F S16x8x2048 .f32) : (k0_pay21 v19 (k0_pay18 v19) (k0_pay19 v19) (k0_pay20 v19)) = grp v19 3 := rfl
theorem group4 (v19 : FVec F S16x8x2048 .f32) : (k0_pay25 v19 (k0_pay22 v19) (k0_pay23 v19) (k0_pay24 v19)) = grp v19 4 := rfl
theorem group5 (v19 : FVec F S16x8x2048 .f32) : (k0_pay30 v19 (k0_pay26 v19) (k0_pay27 v19) (k0_pay28 v19) (k0_pay29 v19)) = grp v19 5 := rfl
theorem group6 (v19 : FVec F S16x8x2048 .f32) : (k0_pay33 v19 (k0_pay31 v19) (k0_pay32 v19)) = grp v19 6 := rfl
theorem group7 (v19 : FVec F S16x8x2048 .f32) : (k0_pay38 v19 (k0_pay34 v19) (k0_pay35 v19) (k0_pay36 v19) (k0_pay37 v19)) = grp v19 7 := rfl
theorem group8 (v19 : FVec F S16x8x2048 .f32) : (k0_pay42 v19 (k0_pay39 v19) (k0_pay40 v19) (k0_pay41 v19)) = grp v19 8 := rfl
theorem group9 (v19 : FVec F S16x8x2048 .f32) : (k0_pay45 v19 (k0_pay43 v19) (k0_pay44 v19)) = grp v19 9 := rfl
theorem group10 (v19 : FVec F S16x8x2048 .f32) : (k0_pay49 (k0_pay47 v19 (k0_pay46 v19)) (k0_pay48 v19)) = grp v19 10 := rfl
theorem group11 (v19 : FVec F S16x8x2048 .f32) : (k0_pay54 (k0_pay50 v19) (k0_pay51 v19) (k0_pay52 v19) (k0_pay53 v19)) = grp v19 11 := rfl
theorem group12 (v19 : FVec F S16x8x2048 .f32) : (k0_pay58 v19 (k0_pay55 v19) (k0_pay56 v19) (k0_pay57 v19)) = grp v19 12 := rfl
theorem group13 (v19 : FVec F S16x8x2048 .f32) : (k0_pay62 v19 (k0_pay59 v19) (k0_pay60 v19) (k0_pay61 v19)) = grp v19 13 := rfl
theorem group14 (v19 : FVec F S16x8x2048 .f32) : (k0_pay67 v19 (k0_pay63 v19) (k0_pay64 v19) (k0_pay65 v19) (k0_pay66 v19)) = grp v19 14 := rfl

/-- The sixteen groups' sums stacked. -/
def stack (v19 : FVec F S16x8x2048 .f32) : FVec F S16x8x128 .f32 :=
  concatenate S16x8x128 0 [⟨S1x8x128, shapeCast S1x8x128 (grp v19 0) shapeCasts_S8x128_S1x8x128⟩, ⟨S1x8x128, shapeCast S1x8x128 (grp v19 1) shapeCasts_S8x128_S1x8x128⟩, ⟨S1x8x128, shapeCast S1x8x128 (grp v19 2) shapeCasts_S8x128_S1x8x128⟩, ⟨S1x8x128, shapeCast S1x8x128 (grp v19 3) shapeCasts_S8x128_S1x8x128⟩, ⟨S1x8x128, shapeCast S1x8x128 (grp v19 4) shapeCasts_S8x128_S1x8x128⟩, ⟨S1x8x128, shapeCast S1x8x128 (grp v19 5) shapeCasts_S8x128_S1x8x128⟩, ⟨S1x8x128, shapeCast S1x8x128 (grp v19 6) shapeCasts_S8x128_S1x8x128⟩, ⟨S1x8x128, shapeCast S1x8x128 (grp v19 7) shapeCasts_S8x128_S1x8x128⟩, ⟨S1x8x128, shapeCast S1x8x128 (grp v19 8) shapeCasts_S8x128_S1x8x128⟩, ⟨S1x8x128, shapeCast S1x8x128 (grp v19 9) shapeCasts_S8x128_S1x8x128⟩, ⟨S1x8x128, shapeCast S1x8x128 (grp v19 10) shapeCasts_S8x128_S1x8x128⟩, ⟨S1x8x128, shapeCast S1x8x128 (grp v19 11) shapeCasts_S8x128_S1x8x128⟩, ⟨S1x8x128, shapeCast S1x8x128 (grp v19 12) shapeCasts_S8x128_S1x8x128⟩, ⟨S1x8x128, shapeCast S1x8x128 (grp v19 13) shapeCasts_S8x128_S1x8x128⟩, ⟨S1x8x128, shapeCast S1x8x128 (grp v19 14) shapeCasts_S8x128_S1x8x128⟩, ⟨S1x8x128, shapeCast S1x8x128 (grp v19 15) shapeCasts_S8x128_S1x8x128⟩] concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0

/-- The normalised, gained rows of one trip: the root mean square of each row from the stacked sums. -/
def chunkY (gain : Vec F S1x1x2048 .f32) (v19 : FVec F S16x8x2048 .f32) : FVec F S16x8x2048 .f32 :=
  mulf (mulf v19 (broadcastTo S16x8x2048
    (rsqrt (addf (mulf (shapeCast S16x8x1 (multiReduction .add [2] S16x8 (stack v19) 0x00000000#32 reduces_S16x8x128_S16x8 (.inl rfl) rfl) shapeCasts_S16x8_S16x8x1)
      (broadcast S16x8x1 (Scalar.ofBits .f32 0x3A000000#32))) (broadcast S16x8x1 (Scalar.ofBits .f32 0x358637BD#32))))
    broadcasts_S16x8x1_S16x8x2048)) (broadcastTo S16x8x2048 (shapeCast S1x1x2048 gain shapeCasts_S1x1x2048_S1x1x2048) broadcasts_S1x1x2048_S16x8x2048)

/-- Each row's largest magnitude. -/
def chunkA (gain : Vec F S1x1x2048 .f32) (v19 : FVec F S16x8x2048 .f32) : FVec F S16x8x1 .f32 :=
  shapeCast S16x8x1 (multiReduction .maximumf [2] S16x8 (absf (chunkY gain v19)) 0xFF800000#32 reduces_S16x8x2048_S16x8 (.inl rfl) rfl) shapeCasts_S16x8_S16x8x1

/-- The magnitude over the format's largest value: what the row's power of two is taken of. -/
def chunkS (gain : Vec F S1x1x2048 .f32) (v19 : FVec F S16x8x2048 .f32) : FVec F S16x8x1 .f32 :=
  mulf (chunkA gain v19) (broadcast S16x8x1 (Scalar.ofBits .f32 0x3B124925#32))

theorem pay71_eq (gain : Vec F S1x1x2048 .f32) (v19 : FVec F S16x8x2048 .f32) :
    k0_pay71 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkY gain v19 := rfl
theorem pay72_eq (gain : Vec F S1x1x2048 .f32) (v19 : FVec F S16x8x2048 .f32) :
    k0_pay72 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkA gain v19 := rfl
theorem pay73_eq (gain : Vec F S1x1x2048 .f32) (v19 : FVec F S16x8x2048 .f32) :
    k0_pay73 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkS gain v19 := rfl

/-- The scale's bits: the exponent search over the magnitudes, then the field moved into place. -/
def scaleBits (a s : FVec F S16x8x1 .f32) : IVec S16x8x1 32 := k0_pay77 a s (k0_pay76 s k0_pay74 k0_pay75 23#32) 1#32
/-- The codes one trip stores. -/
def chunkCodes (gain : Vec F S1x1x2048 .f32) (v19 : FVec F S16x8x2048 .f32) : FVec F S128x2048 .fp8e4m3 :=
  k0_pay78 (chunkY gain v19) (chunkA gain v19) (chunkS gain v19) (k0_pay76 (chunkS gain v19) k0_pay74 k0_pay75 23#32) 1#32
/-- The scales one trip stores. -/
def chunkScales (gain : Vec F S1x1x2048 .f32) (v19 : FVec F S16x8x2048 .f32) : FVec F S1x128 .f32 :=
  k0_pay2 k0_pay79 (Scalar.ofBits .f32 0x00000000#32) (k0_pay80 (chunkA gain v19) (chunkS gain v19) (k0_pay76 (chunkS gain v19) k0_pay74 k0_pay75 23#32) 1#32)

end Cert.KernelIdeal.Chunk

end
-- ==== Proof.Trip.lean ====
/-
  One trip of the kernel's loop as a list of stores: what the generated trip found is one store per output, of
  `Chunk`'s payloads, and does not depend on what the outputs' buffers held (the body reads the residual stream back,
  but only what it has just stored). So all the trips' stores together are an explicit list, `pieces`.
-/
module

public import proofs.«01_k».proof.Proof.Chunk
public import proofs.«01_k».proof.Proof.Gen.KernelIdeal.Frame.Runs
public import Idealize.ShloMosaic.Lib.Pipeline.Value

@[expose] public section

set_option maxRecDepth 16384

noncomputable section

namespace Cert.KernelIdeal.Trip

open Idealize.ShloMosaic Idealize.ShloMosaic.TcCoe Idealize.SL.Sem
open Cert.KernelIdeal Cert.KernelIdeal.Gen Cert.KernelIdeal.Chunk

variable {F : FTy → Type} [FloatOps F]

/-- Trip `k`'s rectangle of the row-group arrays. -/
abbrev R1 (k : Fin k0_t1_loop.trips) : Rect S128x8x2048 := Rect.unit (s := S128x8x2048) (k0_off1 k) S16x8x2048.size (k0_off1_inb k)
/-- Trip `k`'s rectangle of the codes. -/
abbrev R2 (k : Fin k0_t1_loop.trips) : Rect S1024x2048 := Rect.unit (s := S1024x2048) (k0_off2 k) S128x2048.size (k0_off2_inb k)
/-- Trip `k`'s row of the scales. -/
abbrev R3 (k : Fin k0_t1_loop.trips) : Rect S8x128 := Rect.unit (s := S8x128) (k0_off3 k) S1x128.size (k0_off3_inb k)

/-- The residual stream of trip `k`: the two inputs' rows added. -/
def rows (x0 x1 : Vec F S128x8x2048 .bf16) (k : Fin k0_t1_loop.trips) : Vec F S16x8x2048 .bf16 :=
  k0_pay3 (View.ld x0 (R1 k)) (View.ld x1 (R1 k))

/-- What trip `k` stores into the residual stream. -/
def piece4 (x0 x1 : Vec F S128x8x2048 .bf16) (k : Fin k0_t1_loop.trips) : View.Piece (Elt F) S128x8x2048 .bf16 := ⟨R1 k, rows x0 x1 k⟩
/-- What trip `k` stores into the codes. -/
def piece5 (x0 x1 : Vec F S128x8x2048 .bf16) (v0 : Vec F S1x1x2048 .f32) (k : Fin k0_t1_loop.trips) : View.Piece (Elt F) S1024x2048 .fp8e4m3 :=
  ⟨R2 k, chunkCodes v0 (k0_pay4 (rows x0 x1 k))⟩
/-- What trip `k` stores into the scales. -/
def piece6 (x0 x1 : Vec F S128x8x2048 .bf16) (v0 : Vec F S1x1x2048 .f32) (k : Fin k0_t1_loop.trips) : View.Piece (Elt F) S8x128 .f32 :=
  ⟨R3 k, chunkScales v0 (k0_pay4 (rows x0 x1 k))⟩

section
variable (c : Dev nD) (i : grid0.Coords) (arg1 : Memref sig .tc .vmem S128x8x2048 .bf16) (harg1 : arg1.IsWhole) (arg2 : Memref sig .tc .vmem S128x8x2048 .bf16) (harg2 : arg2.IsWhole) (arg3 : Memref sig .tc .vmem S1x1x2048 .f32) (harg3 : arg3.IsWhole) (arg4 : Memref sig .tc .vmem S128x8x2048 .bf16) (harg4 : arg4.IsWhole) (arg5 : Memref sig .tc .vmem S1024x2048 .fp8e4m3) (harg5 : arg5.IsWhole) (arg6 : Memref sig .tc .vmem S8x128 .f32) (harg6 : arg6.IsWhole) (v0 : Vec F S1x1x2048 .f32) (x0 x1 : Vec F S128x8x2048 .bf16)

theorem tripL_eq (k : Fin k0_t1_loop.trips) (f4 : BufTy.Contents (Elt F) arg4.view.ty) (f5 : BufTy.Contents (Elt F) arg5.view.ty) (f6 : BufTy.Contents (Elt F) arg6.view.ty) :
    tripL_k0_t1 (F := F) Variants.none c none i arg1 harg1 arg2 harg2 arg3 harg3 arg4 harg4 arg5 harg5 arg6 harg6 v0 (harg1.unread x0) (harg2.unread x1) k f4 f5 f6
      = ([piece4 x0 x1 k], [piece5 x0 x1 v0 k], [piece6 x0 x1 v0 k]) := by
  unfold tripL_k0_t1 trip_k0_t1
  dsimp only
  sl_unfold_words
  simp only [View.readCov_cons_toLoadRect, View.readAt_eq_ld, harg1.read_unread, harg2.read_unread]
  rfl

/-- The stores of the trips before `n`, last first. -/
def pieces (v0 : Vec F S1x1x2048 .f32) (x0 x1 : Vec F S128x8x2048 .bf16) : ℕ → List (View.Piece (Elt F) S128x8x2048 .bf16) × List (View.Piece (Elt F) S1024x2048 .fp8e4m3) × List (View.Piece (Elt F) S8x128 .f32)
  | 0 => ([], [], [])
  | n + 1 =>
    if h : n < k0_t1_loop.trips then
      (piece4 x0 x1 ⟨n, h⟩ :: (pieces v0 x0 x1 n).1, piece5 x0 x1 v0 ⟨n, h⟩ :: (pieces v0 x0 x1 n).2.1, piece6 x0 x1 v0 ⟨n, h⟩ :: (pieces v0 x0 x1 n).2.2)
    else pieces v0 x0 x1 n

theorem pb_eq (G4 : BufTy.Contents (Elt F) arg4.view.ty) (G5 : BufTy.Contents (Elt F) arg5.view.ty) (G6 : BufTy.Contents (Elt F) arg6.view.ty) :
    ∀ n : ℕ, pb_k0_t1 (F := F) Variants.none c none i arg1 harg1 arg2 harg2 arg3 harg3 arg4 harg4 arg5 harg5 arg6 harg6 v0 (harg1.unread x0) (harg2.unread x1) G4 G5 G6 n = pieces v0 x0 x1 n
  | 0 => rfl
  | n + 1 => by
    by_cases h : n < k0_t1_loop.trips
    · have e := pb_k0_t1_succ (F := F) Variants.none c none i arg1 harg1 arg2 harg2 arg3 harg3 arg4 harg4 arg5 harg5 arg6 harg6 v0 (harg1.unread x0) (harg2.unread x1) G4 G5 G6 ⟨n, h⟩
      rw [tripL_eq] at e
      rw [e, pb_eq G4 G5 G6 n, pieces, dif_pos h]
      rfl
    · rw [pb_k0_t1.eq_2, pieces, dif_neg h]
      unfold pb_k0_t1Step
      rw [dif_neg h]
      exact pb_eq G4 G5 G6 n
end

end Cert.KernelIdeal.Trip

end
-- ==== Proof.Run.lean ====
/-
  The kernel's body run once at a grid point: whatever the outputs' buffers held, it leaves in them the stores of the
  eight trips (`Trip.pieces`).
-/
module

public import proofs.«01_k».proof.Proof.Trip
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Chunk Cert.KernelIdeal.Trip

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

set_option maxHeartbeats 1000000 in
theorem kernelRun (c : Dev nD) (i : grid0.Coords) (arg1 : Memref sig .tc .vmem S128x8x2048 .bf16) (harg1 : arg1.IsWhole) (arg2 : Memref sig .tc .vmem S128x8x2048 .bf16) (harg2 : arg2.IsWhole) (arg3 : Memref sig .tc .vmem S1x1x2048 .f32) (harg3 : arg3.IsWhole) (arg4 : Memref sig .tc .vmem S128x8x2048 .bf16) (harg4 : arg4.IsWhole) (arg5 : Memref sig .tc .vmem S1024x2048 .fp8e4m3) (harg5 : arg5.IsWhole) (arg6 : Memref sig .tc .vmem S8x128 .f32) (harg6 : arg6.IsWhole)
    (x0 : Vec F S128x8x2048 .bf16) (x1 : Vec F S128x8x2048 .bf16) (x2 : Vec F S1x1x2048 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f (pieces x2 x0 x1 8).1) ∗ (∃ f, arg5.view.loc (c : Thread nD τ) ↦[arg5.view.set]{fullShare} arg5.view.writes (Elt F) f (pieces x2 x0 x1 8).2.1) ∗ (∃ f, arg6.view.loc (c : Thread nD τ) ↦[arg6.view.set]{fullShare} arg6.view.writes (Elt F) f (pieces x2 x0 x1 8).2.2)) -∗ K ⟨⟩))
          ⊢ wp frame (wpE (defs₀ (F := F)) Variants.none c none) E (cc0_add_rmsnorm_fp8 i arg1 harg1 arg2 harg2 arg3 harg3 arg4 harg4 arg5 harg5 arg6 harg6) K := by
  simp only [cc0_add_rmsnorm_fp8_eq_skeleton]; unfold cc0_add_rmsnorm_fp8_skel
  have hv : arg3.view.readAt (Elt F) (Rect.unit (s := S1x1x2048) ![0, 0, 0] S1x1x2048.size inb_S1x1x2048_S1x1x2048_0_0_0).toLoadRect (harg3.unread x2) = x2 := by
    rw [View.readAt_eq_ld, harg3.read_unread, View.ld_unit_zero (S := S1x1x2048) hz3]
  have htr : Scf.trips k0_t1_loop.lb k0_t1_loop.ub k0_t1_loop.st = 8 := by decide +kernel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  rw [pb_eq, htr]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]; · iexists _; iexact H3
  isplitl [H4]; · iexists _; iexact H4
  iexists _; iexact H5

end Cert.KernelIdeal.Run

end
-- ==== Proof.Body.lean ====
/-
  The kernel's launch over the reals: what the output blocks hold after the body at each grid point (`outs`, from the eight
  trips' stores), the body obligation, the run of the whole program and its frame.
-/
module

public import proofs.«01_k».proof.Proof.Run
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Chunk Cert.KernelIdeal.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the eight trips leave in each output's block -/

/-- The eight trips' stores into output 1 tile its block. -/
theorem cover3 (x0 : Vec F S128x8x2048 .bf16) (x1 : Vec F S128x8x2048 .bf16) (x2 : Vec F S1x1x2048 .f32) (y : S128x8x2048.Idx) :
    ∃ pc ∈ (pieces x2 x0 x1 8).1, y ∈ pc.1.set :=
  View.cover_of_tiledL (pieces x2 x0 x1 8).1 S16x8x2048.size (by sl_kernel_rfl) y

/-- The eight trips' stores into output 2 tile its block. -/
theorem cover4 (x0 : Vec F S128x8x2048 .bf16) (x1 : Vec F S128x8x2048 .bf16) (x2 : Vec F S1x1x2048 .f32) (y : S1024x2048.Idx) :
    ∃ pc ∈ (pieces x2 x0 x1 8).2.1, y ∈ pc.1.set :=
  View.cover_of_tiledL (pieces x2 x0 x1 8).2.1 S128x2048.size (by sl_kernel_rfl) y

/-- The eight trips' stores into output 3 tile its block. -/
theorem cover5 (x0 : Vec F S128x8x2048 .bf16) (x1 : Vec F S128x8x2048 .bf16) (x2 : Vec F S1x1x2048 .f32) (y : S8x128.Idx) :
    ∃ pc ∈ (pieces x2 x0 x1 8).2.2, y ∈ pc.1.set :=
  View.cover_of_tiledL (pieces x2 x0 x1 8).2.2 S1x128.size (by sl_kernel_rfl) y

/-- What the three outputs' blocks hold after the body, from the input blocks. -/
def outs (x0 : Vec F S128x8x2048 .bf16) (x1 : Vec F S128x8x2048 .bf16) (x2 : Vec F S1x1x2048 .f32) :
    Vec F S128x8x2048 .bf16 × Vec F S1024x2048 .fp8e4m3 × Vec F S8x128 .f32 :=
  (View.canon (pieces x2 x0 x1 8).1, View.canon (pieces x2 x0 x1 8).2.1, View.canon (pieces x2 x0 x1 8).2.2)

/-! ## What the outputs hold after each point -/

/-- What the outputs' staging buffers hold after the body at point `t` (as a tuple, in window order): the run's contents at
    the point's memrefs and input blocks. -/
def outsAt0 (c : Dev nD) (t : Fin cfg0.N) : Vec F S128x8x2048 .bf16 × Vec F S1024x2048 .fp8e4m3 × Vec F S8x128 .f32 :=
  outs (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold outs; dsimp only
  iintro ⟨HΦ, Ho, ⟨%d0, H0⟩, ⟨%d1, H1⟩, ⟨%d2, H2⟩, ⟨%d3, H3⟩, ⟨%d4, H4⟩, ⟨%d5, H5⟩⟩
  iapply (Run.kernelRun c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover3 _ _ _)
  isplitl [H4]
  · unfold owns; iexists _; isplitr
    swap; · iexact H4
    ipureintro; exact View.read_writes_eq_canon _ _ _ (cover4 _ _ _)
  unfold owns; iexists _; isplitr
  swap; · iexact H5
  ipureintro; exact View.read_writes_eq_canon _ _ _ (cover5 _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.Spec.lean ====
/-
  What the problem asks of one row, over the extended reals: root-mean-square normalisation of the residual row, gained,
  and its quantisation by a power of two. Both programs are shown to compute these functions row by row.
-/
module

public import Idealize.ShloMosaic.PureOps.Ideal
public import Idealize.ShloMosaic.PureOps.Ideal.Laws

@[expose] public section

noncomputable section

namespace Cert.Row

open Idealize.ShloMosaic

/-- The sum of a row's squares. -/
def sumSq (f : Fin 2048 → EReal) : EReal := ∑ k : Fin 2048, f k * f k

/-- The normalised, gained row: each element over the root of the mean square plus 1e-6, times its gain. -/
def y (f g : Fin 2048 → EReal) (k : Fin 2048) : EReal :=
  f k * Ideal.rsqrt (Ideal.div (sumSq f) (Ideal.ofBits .f32 0x45000000#32) + Ideal.ofBits .f32 0x358637BD#32) * g k

/-- The row's largest magnitude. -/
def a (f g : Fin 2048 → EReal) : EReal :=
  Finset.univ.fold max (Ideal.ofBits .f32 0xFF800000#32) fun k : Fin 2048 => max (y f g k) (-(y f g k))

/-- The largest magnitude over the code format's largest value, 448. -/
def s (f g : Fin 2048 → EReal) : EReal := a f g * Ideal.ofBits .f32 0x3B124925#32

/-- The exponent of the power of two above `s`: the floor of its base-2 logarithm, plus one; zero outside the normal range. -/
def expo (s : EReal) : EReal :=
  if Ideal.ofBits .f32 0x00800000#32 ≤ s ∧ s < Ideal.ofBits .f32 0x7E800000#32
  then Ideal.liftRound Int.floor (Ideal.div (Ideal.log s) ((Real.log 2 : ℝ) : EReal)) + 1 else 0

/-- The row's code at `k`: the element over the row's power of two, clipped to ±448. -/
def code (f g : Fin 2048 → EReal) (k : Fin 2048) : EReal :=
  min (Ideal.ofBits .f32 0x43E00000#32) (max (Ideal.ofBits .f32 0xC3E00000#32) (y f g k * Ideal.exp2 (0 - expo (s f g))))

/-- The row's scale: the power of two itself. -/
def scale (f g : Fin 2048 → EReal) : EReal := Ideal.exp2 (expo (s f g))

end Cert.Row

end
-- ==== Proof.Search.lean ====
/-
  The kernel's scale, a power of two built from bits: the exponent field of `s` found by an eight-step search over the
  powers of two `power n = 2^(n - 127)`, the scale's bits and its reciprocal's from the field. Over the extended reals both
  are the powers of two of `Row.expo s`.
-/
module

public import proofs.«01_k».proof.Proof.Spec
public import Idealize.ShloMosaic.Lib.ValueIdxCore

@[expose] public section

set_option maxRecDepth 16384

noncomputable section

namespace Cert.Search

open Idealize.ShloMosaic

/-- The float whose exponent field is `n` and whose fraction is zero. -/
def power (n : ℕ) : EReal := Ideal.ofBits .f32 (BitVec.ofNat 32 n <<< (23 : ℕ))

theorem fields : ∀ n : Fin 256, ((BitVec.ofNat 32 n.val <<< (23 : ℕ)).extractLsb' 31 1 == 1#1) = false
    ∧ ((BitVec.ofNat 32 n.val <<< (23 : ℕ)).extractLsb' 23 8).toNat = n.val
    ∧ ((BitVec.ofNat 32 n.val <<< (23 : ℕ)).extractLsb' 0 23).toNat = 0 := by decide +kernel

theorem power_def (n : ℕ) : power n = Ideal.ieee 8 23 (w := 32) (BitVec.ofNat 32 n <<< (23 : ℕ)) := rfl

theorem ieee_normal {w : ℕ} (b : BitVec w) (n : ℕ) (h1 : 1 ≤ n) (h2 : n ≤ 254) (f1 : (b.extractLsb' 31 1 == 1#1) = false)
    (f2 : (b.extractLsb' 23 8).toNat = n) (f3 : (b.extractLsb' 0 23).toNat = 0) :
    Ideal.ieee 8 23 b = (((2 : ℝ) ^ ((n : ℤ) - 127) : ℝ) : EReal) := by
  have e : ((n : ℤ) - 127) = 23 + ((n : ℤ) - 127 - 23) := by ring
  unfold Ideal.ieee
  simp only [Nat.reduceAdd, f1, f2, f3]
  rw [if_neg (by omega), if_neg (by omega)]
  congr 1
  rw [e, zpow_add₀ (by norm_num : (2 : ℝ) ≠ 0)]
  norm_num

theorem power_eq (n : ℕ) (h1 : 1 ≤ n) (h2 : n ≤ 254) : power n = (((2 : ℝ) ^ ((n : ℤ) - 127) : ℝ) : EReal) := by
  obtain ⟨f1, f2, f3⟩ := fields ⟨n, by omega⟩
  rw [power_def]
  exact ieee_normal _ n h1 h2 f1 f2 f3

theorem power_zero : power 0 = 0 := by
  obtain ⟨f1, f2, f3⟩ := fields ⟨0, by omega⟩
  simp only at f1 f2 f3
  rw [power_def]
  unfold Ideal.ieee
  simp only [Nat.reduceAdd, f1, f2, f3]
  simp

theorem power_top : power 255 = ⊤ := by
  obtain ⟨f1, f2, f3⟩ := fields ⟨255, by omega⟩
  simp only at f1 f2 f3
  rw [power_def]
  unfold Ideal.ieee
  simp only [Nat.reduceAdd, f1, f2, f3]
  simp

theorem power_mono {n n' : ℕ} (h : n ≤ n') (h' : n' ≤ 255) : power n ≤ power n' := by
  rcases Nat.eq_zero_or_pos n with rfl | hn
  · rw [power_zero]
    rcases Nat.eq_zero_or_pos n' with rfl | hn'
    · rw [power_zero]
    · rcases Nat.lt_or_ge n' 255 with hlt | hge
      · rw [power_eq n' hn' (by omega)]
        exact_mod_cast (zpow_pos (by norm_num : (0 : ℝ) < 2) _).le
      · obtain rfl : n' = 255 := by omega
        rw [power_top]; exact le_top
  · rcases Nat.lt_or_ge n' 255 with hlt | hge
    · rw [power_eq n' (by omega) (by omega), power_eq n hn (by omega)]
      exact_mod_cast zpow_le_zpow_right₀ (by norm_num : (1 : ℝ) ≤ 2) (show (n : ℤ) - 127 ≤ (n' : ℤ) - 127 by omega)
    · obtain rfl : n' = 255 := by omega
      rw [power_top]; exact le_top

/-- One step of the exponent search, on words: raise the field by `b` if `s` is at least that power. -/
def up (s : Ideal .f32) (f b : BitVec 32) : BitVec 32 :=
  Scalar.select (FloatOps.cmpf (F := Ideal) .oge s (Ideal.ofBits .f32 (IntOp.shli .vector (IntOp.addi f b) 23#32))) (IntOp.addi f b) f

open Classical in
/-- The same on numbers. -/
def upN (s : EReal) (f b : ℕ) : ℕ := if power (f + b) ≤ s then f + b else f

theorem up_eq (s : EReal) (f b : ℕ) : up s (BitVec.ofNat 32 f) (BitVec.ofNat 32 b) = BitVec.ofNat 32 (upN s f b) := by
  have e : IntOp.addi (BitVec.ofNat 32 f) (BitVec.ofNat 32 b) = BitVec.ofNat 32 (f + b) := by
    show BitVec.ofNat 32 f + BitVec.ofNat 32 b = _
    rw [BitVec.ofNat_add]
  have e' : ∀ x : BitVec 32, IntOp.shli .vector x 23#32 = x <<< (23 : ℕ) := fun x => rfl
  unfold up upN
  rw [e, e']
  by_cases h : power (f + b) ≤ s
  · rw [if_pos h]
    have : FloatOps.cmpf (F := Ideal) (φ := .f32) .oge s (Ideal.ofBits .f32 (BitVec.ofNat 32 (f + b) <<< (23 : ℕ))) = 1#1 := by
      show BitVec.ofBool (decide _) = _
      rw [decide_eq_true (by exact h)]; rfl
    rw [this]; rfl
  · rw [if_neg h]
    have : FloatOps.cmpf (F := Ideal) (φ := .f32) .oge s (Ideal.ofBits .f32 (BitVec.ofNat 32 (f + b) <<< (23 : ℕ))) = 0#1 := by
      show BitVec.ofBool (decide _) = _
      rw [decide_eq_false (by exact h)]; rfl
    rw [this]; rfl

/-- What holds before the step with bit `b`: the field is a power at most `s`, and `2 b` more is too much. -/
def Inv (s : EReal) (f w : ℕ) : Prop := (f = 0 ∨ power f ≤ s) ∧ (f + w ≤ 256) ∧ ∀ n, f + w ≤ n → n ≤ 255 → ¬ power n ≤ s

theorem Inv.step {s : EReal} {f b : ℕ} (h : Inv s f (2 * b)) (hb : 1 ≤ b) : Inv s (upN s f b) b := by
  obtain ⟨h0, h1, h2⟩ := h
  unfold upN
  split
  · next hp => exact ⟨.inr hp, by omega, fun n hn hn' => h2 n (by omega) hn'⟩
  · next hp => exact ⟨h0, by omega, fun n hn hn' hh => hp (le_trans (power_mono hn hn') hh)⟩

/-- The whole search, on words. -/
def search (s : Ideal .f32) : BitVec 32 :=
  up s (up s (up s (up s (up s (up s (up s (up s 0#32 128#32) 64#32) 32#32) 16#32) 8#32) 4#32) 2#32) 1#32

theorem search_spec (s : EReal) : ∃ f : ℕ, search s = BitVec.ofNat 32 f ∧ f ≤ 255 ∧ (f = 0 ∨ power f ≤ s) ∧ ∀ n, f < n → n ≤ 255 → s < power n := by
  have i0 : Inv s 0 (2 * 128) := ⟨.inl rfl, by omega, fun n _ _ => by omega⟩
  have i1 := i0.step (by omega)
  have i2 := Inv.step (b := 64) i1 (by omega)
  have i3 := Inv.step (b := 32) i2 (by omega)
  have i4 := Inv.step (b := 16) i3 (by omega)
  have i5 := Inv.step (b := 8) i4 (by omega)
  have i6 := Inv.step (b := 4) i5 (by omega)
  have i7 := Inv.step (b := 2) i6 (by omega)
  have i8 := Inv.step (b := 1) i7 (by omega)
  refine ⟨_, ?_, ?_, i8.1, fun n hn hn' => not_le.mp (i8.2.2 n hn hn')⟩
  · unfold search
    rw [show (0#32 : BitVec 32) = BitVec.ofNat 32 0 from rfl]
    simp only [up_eq]
  · have := i8.2.1; omega

/-- The scale's bits from the field: outside the normal range, or at a zero row, the scale is one. -/
def bits (a s : Ideal .f32) (f : BitVec 32) : BitVec 32 :=
  have f1 := Scalar.select (FloatOps.cmpf (F := Ideal) .olt s (Ideal.ofBits .f32 0x7E800000#32)) f 255#32
  IntOp.shli .vector (IntOp.addi (Scalar.select (IntOp.andi (IntOp.cmpi .ult (IntOp.subi f1 1#32) 254#32)
    (FloatOps.cmpf (F := Ideal) .one a (Ideal.ofBits .f32 0x00000000#32))) f1 126#32) 1#32) 23#32

/-- The scale. -/
def scale (a s : EReal) : EReal := Ideal.ofBits .f32 (bits a s (search s))
/-- Its reciprocal. -/
def inv (a s : EReal) : EReal := Ideal.ofBits .f32 (IntOp.subi 2130706432#32 (bits a s (search s)))

theorem sel_in : ∀ f : Fin 253, 1 ≤ f.val →
    IntOp.cmpi .ult (IntOp.subi (BitVec.ofNat 32 f.val) 1#32) 254#32 = 1#1
    ∧ IntOp.shli .vector (IntOp.addi (BitVec.ofNat 32 f.val) 1#32) 23#32 = BitVec.ofNat 32 (f.val + 1) <<< (23 : ℕ)
    ∧ IntOp.subi 2130706432#32 (BitVec.ofNat 32 (f.val + 1) <<< (23 : ℕ)) = BitVec.ofNat 32 (253 - f.val) <<< (23 : ℕ) := by
  decide +kernel

theorem lo_eq : Ideal.ofBits .f32 0x00800000#32 = power 1 := rfl
theorem hi_eq : Ideal.ofBits .f32 0x7E800000#32 = power 253 := rfl

theorem exp2_zero : Ideal.exp2 0 = 1 := by
  show ((Real.rpow 2 0 : ℝ) : EReal) = 1
  simp

theorem power_127 : power 127 = 1 := by
  rw [power_eq 127 (by omega) (by omega)]; norm_num

theorem expo_in (s : EReal) (f : ℕ) (h1 : 1 ≤ f) (h2 : f ≤ 252) (hl : power f ≤ s) (hr : s < power (f + 1)) :
    Row.expo s = (((f : ℝ) - 126 : ℝ) : EReal) := by
  have hlo : power 1 ≤ s := (power_mono h1 (by omega)).trans hl
  have hhi : s < power 253 := hr.trans_le (power_mono (by omega) (by omega))
  rw [power_eq f h1 (by omega)] at hl
  rw [power_eq (f + 1) (by omega) (by omega)] at hr
  unfold Row.expo
  rw [lo_eq, hi_eq, if_pos ⟨hlo, hhi⟩]
  induction s with
  | bot => exact absurd (le_bot_iff.mp hl) (EReal.coe_ne_bot _)
  | top => exact absurd hr (not_lt.mpr le_top)
  | coe r =>
    have hl' : (2 : ℝ) ^ ((f : ℤ) - 127) ≤ r := by exact_mod_cast hl
    have hr' : r < (2 : ℝ) ^ (((f + 1 : ℕ) : ℤ) - 127) := by exact_mod_cast hr
    have hp : (0 : ℝ) < 2 ^ ((f : ℤ) - 127) := zpow_pos (by norm_num) _
    have hr0 : 0 < r := hp.trans_le hl'
    have hlog : Ideal.log (r : EReal) = ((Real.log r : ℝ) : EReal) := by
      show (if r ≤ 0 then (⊥ : EReal) else _) = _
      rw [if_neg (not_le.mpr hr0)]
    have hl2 : 0 < Real.log 2 := Real.log_pos (by norm_num)
    have hdiv : Ideal.div ((Real.log r : ℝ) : EReal) ((Real.log 2 : ℝ) : EReal) = ((Real.log r / Real.log 2 : ℝ) : EReal) := by
      unfold Ideal.div
      rw [if_neg (by exact_mod_cast hl2.ne'), div_eq_mul_inv, EReal.coe_mul, EReal.coe_inv]
    have hfl : ⌊Real.log r / Real.log 2⌋ = (f : ℤ) - 127 := by
      rw [Int.floor_eq_iff]
      constructor
      · rw [le_div_iff₀ hl2, ← Real.log_zpow]
        exact Real.log_le_log hp hl'
      · rw [div_lt_iff₀ hl2]
        have := Real.log_lt_log hr0 hr'
        rw [Real.log_zpow] at this
        refine this.trans_eq ?_
        push_cast; ring
    rw [hlog, hdiv]
    show ((⌊Real.log r / Real.log 2⌋ : ℝ) : EReal) + 1 = _
    rw [hfl, ← EReal.coe_one, ← EReal.coe_add]
    congr 1; push_cast; ring

theorem exp2_int (z : ℤ) : Ideal.exp2 ((z : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

theorem scale_inv (a s : EReal) (ha : a = 0 → s = 0) :
    scale a s = Ideal.exp2 (Row.expo s) ∧ inv a s = Ideal.exp2 (0 - Row.expo s) := by
  obtain ⟨f, hf, hf', hP, hN⟩ := search_spec s
  unfold scale inv
  rw [hf]
  by_cases hhi : s < power 253
  · have c1 : FloatOps.cmpf (F := Ideal) (φ := .f32) .olt s (Ideal.ofBits .f32 0x7E800000#32) = 1#1 := by
      show BitVec.ofBool (decide _) = _
      rw [decide_eq_true (by exact hhi)]; rfl
    unfold bits
    simp only [c1, show ∀ x y : BitVec 32, Scalar.select 1#1 x y = x from fun _ _ => rfl]
    by_cases hlo : power 1 ≤ s
    · -- the normal range
      have h1 : 1 ≤ f := by
        by_contra h
        exact absurd hlo (not_le.mpr (hN 1 (by omega) (by omega)))
      have hP' : power f ≤ s := by rcases hP with h | h; · omega
                                   · exact h
      have h2 : f ≤ 252 := by
        by_contra h
        exact absurd ((power_mono (by omega : 253 ≤ f) hf').trans hP') (not_le.mpr hhi)
      have ha0 : a ≠ 0 := by
        intro h
        rw [ha h, power_eq 1 (by omega) (by omega)] at hlo
        have : (0 : ℝ) < 2 ^ (((1 : ℕ) : ℤ) - 127) := zpow_pos (by norm_num) _
        exact absurd hlo (not_le.mpr (by exact_mod_cast this))
      have c2 : FloatOps.cmpf (F := Ideal) (φ := .f32) .one a (Ideal.ofBits .f32 0x00000000#32) = 1#1 := by
        show BitVec.ofBool (decide _) = _
        rw [decide_eq_true (by rw [Ideal.ofBits_zero_f32]; exact ha0)]; rfl
      obtain ⟨s1, s2, s3⟩ := sel_in ⟨f, by omega⟩ h1
      simp only at s1 s2 s3
      have hN' := hN (f + 1) (by omega) (by omega)
      rw [c2, s1, show IntOp.andi 1#1 1#1 = 1#1 from rfl, show ∀ x y : BitVec 32, Scalar.select 1#1 x y = x from fun _ _ => rfl, s2, s3,
        expo_in s f h1 h2 hP' hN']
      refine ⟨(power_eq (f + 1) (by omega) (by omega)).trans ?_, (power_eq (253 - f) (by omega) (by omega)).trans ?_⟩
      · rw [show ((f : ℝ) - 126) = (((f : ℤ) - 126 : ℤ) : ℝ) by push_cast; ring, exp2_int]
        congr 2; push_cast; ring
      · rw [show (0 : EReal) - (((f : ℝ) - 126 : ℝ) : EReal) = (((126 - (f : ℤ) : ℤ) : ℝ) : EReal) by
          rw [← EReal.coe_zero, ← EReal.coe_sub]; congr 1; push_cast; ring, exp2_int]
        congr 2; omega
    · have hf0 : f = 0 := by
        rcases hP with h | h
        · exact h
        · by_contra h0
          exact hlo ((power_mono (by omega : 1 ≤ f) hf').trans h)
      have he : Row.expo s = 0 := by
        unfold Row.expo
        rw [if_neg fun h => hlo (by rw [← lo_eq]; exact h.1)]
      subst hf0
      rw [he, show IntOp.cmpi .ult (IntOp.subi (BitVec.ofNat 32 0) 1#32) 254#32 = 0#1 by decide,
        show ∀ c : BitVec 1, IntOp.andi 0#1 c = 0#1 by decide,
        show ∀ x y : BitVec 32, Scalar.select 0#1 x y = y from fun _ _ => rfl, sub_zero, exp2_zero]
      exact ⟨power_127, power_127⟩
  · have c1 : FloatOps.cmpf (F := Ideal) (φ := .f32) .olt s (Ideal.ofBits .f32 0x7E800000#32) = 0#1 := by
      show BitVec.ofBool (decide _) = _
      rw [decide_eq_false (by exact hhi)]; rfl
    have he : Row.expo s = 0 := by
      unfold Row.expo
      rw [if_neg fun h => hhi (by rw [← hi_eq]; exact h.2)]
    unfold bits
    simp only [c1, show ∀ x y : BitVec 32, Scalar.select 0#1 x y = y from fun _ _ => rfl]
    rw [he, show IntOp.cmpi .ult (IntOp.subi 255#32 1#32) 254#32 = 0#1 by decide,
        show ∀ c : BitVec 1, IntOp.andi 0#1 c = 0#1 by decide,
        show ∀ x y : BitVec 32, Scalar.select 0#1 x y = y from fun _ _ => rfl, sub_zero, exp2_zero]
    exact ⟨power_127, power_127⟩

end Cert.Search

end
-- ==== Proof.Rows.lean ====
/-
  One trip of the kernel's loop over the extended reals, row by row: the stacked partial sums are the row's sum of squares,
  and the codes and scales the trip stores are `Row.code` and `Row.scale` of its rows.
-/
module

public import proofs.«01_k».proof.Proof.Body
public import proofs.«01_k».proof.Proof.Search
public import Idealize.ShloMosaic.Lib.Pointwise

@[expose] public section

set_option maxRecDepth 16384

noncomputable section

namespace Cert.KernelIdeal.Rows

open Idealize.ShloMosaic Cert.KernelIdeal Cert.KernelIdeal.Gen Cert.KernelIdeal.Chunk Cert.KernelIdeal.Trip Cert.Search

theorem sqr_apply (v : FVec Ideal S16x8x2048 .f32) (g c : Fin 16) (r : Fin 8) (l : Fin 128) :
    sqr v g c (ix2 r l) = v (ix3 g r ⟨128 * c.val + l.val, by omega⟩) * v (ix3 g r ⟨128 * c.val + l.val, by omega⟩) := by
  pointwise [sqr]

/-- A sum over 2048 lanes, taken lane by lane over sixteen blocks of 128. -/
theorem sum_blocks (h : Fin 2048 → EReal) :
    ∑ k, h k = ∑ l : Fin 128, ∑ c : Fin 16, h ⟨128 * c.val + l.val, by omega⟩ := by
  rw [← (finProdFinEquiv (m := 16) (n := 128)).sum_comp, Fintype.sum_prod_type, Finset.sum_comm]
  refine Finset.sum_congr rfl fun l _ => Finset.sum_congr rfl fun c _ => congrArg h (Fin.ext ?_)
  exact Nat.add_comm _ _

/-- Sixteen terms added as the kernel adds them: the even ones, the odd ones, and the two sums. -/
theorem sum_evens_odds (q : Fin 16 → EReal) :
    ((((((((q 0 + q 2) + q 4) + q 6) + q 8) + q 10) + q 12) + q 14)
    + (((((((q 1 + q 3) + q 5) + q 7) + q 9) + q 11) + q 13) + q 15)) = ∑ c : Fin 16, q c := by
  have e : ∑ c : Fin 16, q c = q 0 + (q 1 + (q 2 + (q 3 + (q 4 + (q 5 + (q 6 + (q 7 + (q 8 + (q 9 + (q 10 + (q 11 + (q 12 + (q 13 + (q 14 + q 15)))))))))))))) := by
    simp only [Fin.sum_univ_succ, Fin.sum_univ_zero, add_zero]
    rfl
  rw [e]
  ac_rfl

theorem grp_apply (v : FVec Ideal S16x8x2048 .f32) (g : Fin 16) (r : Fin 8) (l : Fin 128) :
    grp v g (ix2 r l) = ∑ c : Fin 16, v (ix3 g r ⟨128 * c.val + l.val, by omega⟩) * v (ix3 g r ⟨128 * c.val + l.val, by omega⟩) := by
  have e : grp v g (ix2 r l) =
    ((((((((sqr v g 0 (ix2 r l) + sqr v g 2 (ix2 r l)) + sqr v g 4 (ix2 r l)) + sqr v g 6 (ix2 r l)) + sqr v g 8 (ix2 r l)) + sqr v g 10 (ix2 r l)) + sqr v g 12 (ix2 r l)) + sqr v g 14 (ix2 r l) : EReal)
    + (((((((sqr v g 1 (ix2 r l) + sqr v g 3 (ix2 r l)) + sqr v g 5 (ix2 r l)) + sqr v g 7 (ix2 r l)) + sqr v g 9 (ix2 r l)) + sqr v g 11 (ix2 r l)) + sqr v g 13 (ix2 r l)) + sqr v g 15 (ix2 r l))) := rfl
  rw [e]
  rw [show (∑ c : Fin 16, v (ix3 g r ⟨128 * c.val + l.val, by omega⟩) * v (ix3 g r ⟨128 * c.val + l.val, by omega⟩) : EReal)
    = ∑ c : Fin 16, (sqr v g c (ix2 r l) : EReal) from Finset.sum_congr rfl fun c _ => (sqr_apply v g c r l).symm]
  exact sum_evens_odds fun c => (sqr v g c (ix2 r l) : EReal)

theorem stack_apply (v : FVec Ideal S16x8x2048 .f32) (g : Fin 16) (r : Fin 8) (l : Fin 128) :
    stack v (ix3 g r l) = grp v g (ix2 r l) := by
  pointwise [stack]
  fin_vals g with hk
  all_goals simp only [hk, Nat.reduceSub, Nat.reduceLT, ↓reduceDIte, ↓reduceIte]
  all_goals exact congrArg (fun n => grp v n (ix2 r l)) (Fin.ext hk.symm)

/-- Multiplying by 2^-11 is dividing by 2048. -/
theorem mean_eq (x : EReal) : x * Ideal.ofBits .f32 0x3A000000#32 = Ideal.div x (Ideal.ofBits .f32 0x45000000#32) := by
  rw [show Ideal.ofBits .f32 0x3A000000#32 = power 116 from rfl, show Ideal.ofBits .f32 0x45000000#32 = power 138 from rfl,
    power_eq 116 (by omega) (by omega), power_eq 138 (by omega) (by omega)]
  unfold Ideal.div
  rw [if_neg (by have : (0 : ℝ) < 2 ^ (((138 : ℕ) : ℤ) - 127) := zpow_pos (by norm_num) _
                 exact_mod_cast this.ne'), ← EReal.coe_inv]
  congr 2

/-- The trip's row `(g, r)`. -/
abbrev row (v : FVec Ideal S16x8x2048 .f32) (g : Fin 16) (r : Fin 8) : Fin 2048 → EReal := fun k => v (ix3 g r k)
/-- The gains. -/
abbrev gains (gain : Vec Ideal S1x1x2048 .f32) : Fin 2048 → EReal := fun k => gain (ix3 0 0 k)

theorem sum_stack (v : FVec Ideal S16x8x2048 .f32) (g : Fin 16) (r : Fin 8) :
    ∑ x : Fin 128, (stack v (ix3 g r x) : EReal) = Row.sumSq (row v g r) := by
  unfold Row.sumSq
  rw [sum_blocks]
  exact Finset.sum_congr rfl fun l _ => (stack_apply v g r l).trans (grp_apply v g r l)

theorem y_apply (gain : Vec Ideal S1x1x2048 .f32) (v : FVec Ideal S16x8x2048 .f32) (g : Fin 16) (r : Fin 8) (k : Fin 2048) :
    chunkY gain v (ix3 g r k) = Row.y (row v g r) (gains gain) k := by
  have e : chunkY gain v (ix3 g r k) = v (ix3 g r k) * Ideal.rsqrt ((∑ x, stack v (ix3 g r x)) * Ideal.ofBits .f32 973078528#32 + Ideal.ofBits .f32 897988541#32) * gain (ix3 0 0 k) := by
    pointwise [chunkY]
  rw [e]
  unfold Row.y
  rw [← mean_eq, ← sum_stack]

theorem a_apply (gain : Vec Ideal S1x1x2048 .f32) (v : FVec Ideal S16x8x2048 .f32) (g : Fin 16) (r : Fin 8) :
    chunkA gain v (ix3 g r 0) = Row.a (row v g r) (gains gain) := by
  have e : chunkA gain v (ix3 g r 0) = Finset.fold max (Ideal.ofBits .f32 4286578688#32) (fun x => FloatOps.absf (chunkY gain v (ix3 g r x))) Finset.univ := by
    pointwise [chunkA]
  rw [e]
  unfold Row.a
  simp only [y_apply]
  rfl

theorem s_apply (gain : Vec Ideal S1x1x2048 .f32) (v : FVec Ideal S16x8x2048 .f32) (g : Fin 16) (r : Fin 8) :
    chunkS gain v (ix3 g r 0) = Row.s (row v g r) (gains gain) := by
  have e : chunkS gain v (ix3 g r 0) = chunkA gain v (ix3 g r 0) * Ideal.ofBits .f32 0x3B124925#32 := rfl
  rw [e, a_apply]
  rfl

theorem rows_apply (x y : Vec Ideal S16x8x2048 .bf16) (g : Fin 16) (r : Fin 8) (k : Fin 2048) :
    k0_pay4 (k0_pay3 x y) (ix3 g r k) = x (ix3 g r k) + y (ix3 g r k) := by
  pointwise [k0_pay4, k0_pay3]

/-- One step of the exponent search, on the trip's magnitudes. -/
def upV (s : FVec Ideal S16x8x1 .f32) (f : IVec S16x8x1 32) (b : BitVec 32) : IVec S16x8x1 32 :=
  select (cmpf .oge s (bitcastToFloat .f32 (shli (addi f (broadcast S16x8x1 b)) (broadcast S16x8x1 23#32)))) (addi f (broadcast S16x8x1 b)) f

theorem pay76_eq (s : FVec Ideal S16x8x1 .f32) : k0_pay76 s k0_pay74 k0_pay75 23#32
    = upV s (upV s (upV s (upV s (upV s (upV s (upV s k0_pay74 128#32) 64#32) 32#32) 16#32) 8#32) 4#32) 2#32 := by
  unfold k0_pay76 k0_pay75 upV
  rfl

theorem upV_apply (s : FVec Ideal S16x8x1 .f32) (f : IVec S16x8x1 32) (b : BitVec 32) (i : S16x8x1.Idx) :
    upV s f b i = up (s i) (f i) b := rfl

theorem pay77_apply (a s : FVec Ideal S16x8x1 .f32) (f : IVec S16x8x1 32) (i : S16x8x1.Idx) :
    k0_pay77 a s f 1#32 i = bits (a i) (s i) (up (s i) (f i) 1#32) := rfl

theorem scaleBits_apply (a s : FVec Ideal S16x8x1 .f32) (i : S16x8x1.Idx) :
    k0_pay77 a s (k0_pay76 s k0_pay74 k0_pay75 23#32) 1#32 i = bits (a i) (s i) (search (s i)) := by
  rw [pay77_apply, pay76_eq]
  simp only [upV_apply]
  rfl

theorem zero_of_zero (f g : Fin 2048 → EReal) (h : Row.a f g = 0) : Row.s f g = 0 := by
  unfold Row.s
  rw [h, zero_mul]

theorem codes_apply (gain : Vec Ideal S1x1x2048 .f32) (v : FVec Ideal S16x8x2048 .f32) (p : Fin 128) (k : Fin 2048) :
    chunkCodes gain v (ix2 p k) = Row.code (row v ⟨p.val / 8, by omega⟩ ⟨p.val % 8, by omega⟩) (gains gain) k := by
  have e : chunkCodes gain v (ix2 p k) = min (Ideal.ofBits .f32 0x43E00000#32) (max (Ideal.ofBits .f32 0xC3E00000#32)
      (chunkY gain v (ix3 ⟨p.val / 8, by omega⟩ ⟨p.val % 8, by omega⟩ k) * Ideal.ofBits .f32 (IntOp.subi 2130706432#32
        (k0_pay77 (chunkA gain v) (chunkS gain v) (k0_pay76 (chunkS gain v) k0_pay74 k0_pay75 23#32) 1#32 (ix3 ⟨p.val / 8, by omega⟩ ⟨p.val % 8, by omega⟩ 0))))) := by
    pointwise [chunkCodes, k0_pay78]
  rw [e, scaleBits_apply, y_apply, a_apply, s_apply]
  unfold Row.code
  rw [← (scale_inv _ _ (zero_of_zero _ _)).2]
  rfl

theorem pick : ∀ x p : Fin 128, IntOp.cmpi .eq (BitVec.ofNat 32 x.val) (BitVec.ofNat 32 p.val) = if x = p then 1#1 else 0#1 := by
  decide +kernel

theorem scales_apply (gain : Vec Ideal S1x1x2048 .f32) (v : FVec Ideal S16x8x2048 .f32) (p : Fin 128) :
    chunkScales gain v (ix2 0 p) = Row.scale (row v ⟨p.val / 8, by omega⟩ ⟨p.val % 8, by omega⟩) (gains gain) := by
  have e : chunkScales gain v (ix2 0 p) = ∑ x : Fin 128, Scalar.select (IntOp.cmpi .eq (BitVec.ofNat 32 x.val) (BitVec.ofNat 32 p.val))
      (Ideal.ofBits .f32 (k0_pay77 (chunkA gain v) (chunkS gain v) (k0_pay76 (chunkS gain v) k0_pay74 k0_pay75 23#32) 1#32 (ix3 ⟨x.val / 8, by omega⟩ ⟨x.val % 8, by omega⟩ 0))) 0 := by
    pointwise [chunkScales, k0_pay80, k0_pay2, k0_pay79]
  rw [e, Finset.sum_eq_single p]
  · rw [pick, if_pos rfl, scaleBits_apply, a_apply, s_apply]
    exact (scale_inv _ _ (zero_of_zero _ _)).1
  · intro x _ hx
    rw [pick, if_neg hx]
    rfl
  · intro h; exact absurd (Finset.mem_univ _) h

end Cert.KernelIdeal.Rows

end
-- ==== Proof.Block.lean ====
/-
  What the eight trips leave in each output's block, element by element, from the input blocks: the sums of the two inputs,
  the codes of each row of the sums, and the rows' scales.
-/
module

public import proofs.«01_k».proof.Proof.Rows
public import Idealize.ShloMosaic.Lib.Pipeline.ValueKit

@[expose] public section

set_option maxRecDepth 16384

noncomputable section

namespace Cert.KernelIdeal.Block

open Idealize.ShloMosaic Cert.KernelIdeal Cert.KernelIdeal.Gen Cert.KernelIdeal.Chunk Cert.KernelIdeal.Trip Cert.KernelIdeal.Rows
open Cert.KernelIdeal.Body

/-- Row `n` of the 1024 rows of a block: the two inputs' rows added. -/
def blkRow (x0 x1 : Vec Ideal S128x8x2048 .bf16) (n : ℕ) (h : n < 1024) : Fin 2048 → EReal :=
  fun k => x0 (ix3 ⟨n / 8, by omega⟩ ⟨n % 8, by omega⟩ k) + x1 (ix3 ⟨n / 8, by omega⟩ ⟨n % 8, by omega⟩ k)

theorem off1 : ∀ k : Fin k0_t1_loop.trips, k0_off1 k = ![16 * k.val, 0, 0] := by decide +kernel
theorem off2 : ∀ k : Fin k0_t1_loop.trips, k0_off2 k = ![128 * k.val, 0] := by decide +kernel
theorem off3 : ∀ k : Fin k0_t1_loop.trips, k0_off3 k = ![k.val, 0] := by decide +kernel
theorem trips_eq : k0_t1_loop.trips = 8 := by decide +kernel
theorem lt8 (k : Fin k0_t1_loop.trips) : k.val < 8 := lt_of_lt_of_eq k.isLt trips_eq

/-- Where trip `k`'s rectangles put their elements. -/
theorem emb1 (k : Fin k0_t1_loop.trips) (g : Fin 16) (r : Fin 8) (l : Fin 2048) :
    (R1 k).emb (ix3 g r l) = ix3 ⟨16 * k.val + g.val, by have := lt8 k; omega⟩ r l := by
  funext a
  refine Fin.ext ((Rect.idx_unit_val _ _ _ _ a).trans ?_)
  rw [congrFun (off1 k) a]
  fin_cases a <;> simp [ix3]

theorem emb2 (k : Fin k0_t1_loop.trips) (p : Fin 128) (l : Fin 2048) :
    (R2 k).emb (ix2 p l) = ix2 ⟨128 * k.val + p.val, by have := lt8 k; omega⟩ l := by
  funext a
  refine Fin.ext ((Rect.idx_unit_val _ _ _ _ a).trans ?_)
  rw [congrFun (off2 k) a]
  fin_cases a <;> simp [ix2]

theorem emb3 (k : Fin k0_t1_loop.trips) (z : Fin 1) (p : Fin 128) :
    (R3 k).emb (ix2 z p) = ix2 ⟨k.val, by have := lt8 k; omega⟩ p := by
  funext a
  refine Fin.ext ((Rect.idx_unit_val _ _ _ _ a).trans ?_)
  rw [congrFun (off3 k) a]
  fin_cases a <;> simp [ix2]

variable (x0 x1 : Vec Ideal S128x8x2048 .bf16) (x2 : Vec Ideal S1x1x2048 .f32)

theorem pay3_apply (x y : Vec Ideal S16x8x2048 .bf16) (g : Fin 16) (r : Fin 8) (k : Fin 2048) :
    k0_pay3 x y (ix3 g r k) = (x (ix3 g r k) + y (ix3 g r k) : EReal) := by
  pointwise [k0_pay3]

theorem rows_at (k : Fin k0_t1_loop.trips) (g : Fin 16) (r : Fin 8) (l : Fin 2048) :
    rows x0 x1 k (ix3 g r l) = (x0 ((R1 k).emb (ix3 g r l)) + x1 ((R1 k).emb (ix3 g r l)) : EReal) :=
  pay3_apply (View.ld x0 (R1 k)) (View.ld x1 (R1 k)) g r l

theorem row_eq (k : Fin k0_t1_loop.trips) (p : Fin 128) :
    row (k0_pay4 (rows x0 x1 k)) ⟨p.val / 8, by omega⟩ ⟨p.val % 8, by omega⟩
      = blkRow x0 x1 (128 * k.val + p.val) (by have := lt8 k; omega) := by
  funext l
  have hk := lt8 k
  have e : k0_pay4 (rows x0 x1 k) (ix3 ⟨p.val / 8, by omega⟩ ⟨p.val % 8, by omega⟩ l)
      = (x0 ((R1 k).emb (ix3 ⟨p.val / 8, by omega⟩ ⟨p.val % 8, by omega⟩ l)) + x1 ((R1 k).emb (ix3 ⟨p.val / 8, by omega⟩ ⟨p.val % 8, by omega⟩ l)) : EReal) :=
    rows_apply (View.ld x0 (R1 k)) (View.ld x1 (R1 k)) _ _ l
  show k0_pay4 (rows x0 x1 k) (ix3 ⟨p.val / 8, by omega⟩ ⟨p.val % 8, by omega⟩ l) = _
  rw [e, emb1]
  unfold blkRow
  have i : (ix3 ⟨16 * k.val + p.val / 8, by omega⟩ ⟨p.val % 8, by omega⟩ l : S128x8x2048.Idx)
      = ix3 ⟨(128 * k.val + p.val) / 8, by omega⟩ ⟨(128 * k.val + p.val) % 8, by omega⟩ l := by
    congr 1
    · exact Fin.ext (by show 16 * k.val + p.val / 8 = (128 * k.val + p.val) / 8; omega)
    · exact Fin.ext (by show p.val % 8 = (128 * k.val + p.val) % 8; omega)
  rw [i]

/-- The block of the residual stream. -/
def G3 : Vec Ideal S128x8x2048 .bf16 := fun i => (x0 i + x1 i : EReal)
/-- The block of the codes. -/
def G4 : Vec Ideal S1024x2048 .fp8e4m3 := fun i => Row.code (blkRow x0 x1 (i 0).val (i 0).isLt) (gains x2) (i 1)
/-- The block of the scales. -/
def G5 : Vec Ideal S8x128 .f32 := fun i => Row.scale (blkRow x0 x1 (128 * (i 0).val + (i 1).val) (by
  have h0 : (i 0).val < 8 := (i 0).isLt
  have h1 : (i 1).val < 128 := (i 1).isLt
  omega)) (gains x2)

theorem piece4_at (k : Fin k0_t1_loop.trips) (x : (R1 k).shape.Idx) : (piece4 x0 x1 k).2 x = G3 x0 x1 ((R1 k).emb x) := by
  obtain ⟨g, r, l, rfl⟩ : ∃ (g : Fin 16) (r : Fin 8) (l : Fin 2048), x = ix3 g r l := ⟨_, _, _, eq_ix3 x⟩
  exact rows_at x0 x1 k g r l

theorem piece5_at (k : Fin k0_t1_loop.trips) (x : (R2 k).shape.Idx) : (piece5 x0 x1 x2 k).2 x = G4 x0 x1 x2 ((R2 k).emb x) := by
  obtain ⟨p, l, rfl⟩ : ∃ (p : Fin 128) (l : Fin 2048), x = ix2 p l := ⟨_, _, eq_ix2 x⟩
  rw [emb2]
  refine (codes_apply x2 (k0_pay4 (rows x0 x1 k)) p l).trans ?_
  rw [row_eq]
  rfl

theorem piece6_at (k : Fin k0_t1_loop.trips) (x : (R3 k).shape.Idx) : (piece6 x0 x1 x2 k).2 x = G5 x0 x1 x2 ((R3 k).emb x) := by
  obtain ⟨z, p, rfl⟩ : ∃ (z : Fin 1) (p : Fin 128), x = ix2 z p := ⟨_, _, eq_ix2 x⟩
  rw [emb3]
  obtain rfl : z = 0 := Subsingleton.elim _ _
  refine (scales_apply x2 (k0_pay4 (rows x0 x1 k)) p).trans ?_
  rw [row_eq]
  rfl

theorem pieces_at : ∀ n : ℕ,
    (∀ p ∈ (pieces x2 x0 x1 n).1, ∀ x : p.1.shape.Idx, p.2 x = G3 x0 x1 (p.1.emb x))
    ∧ (∀ p ∈ (pieces x2 x0 x1 n).2.1, ∀ x : p.1.shape.Idx, p.2 x = G4 x0 x1 x2 (p.1.emb x))
    ∧ (∀ p ∈ (pieces x2 x0 x1 n).2.2, ∀ x : p.1.shape.Idx, p.2 x = G5 x0 x1 x2 (p.1.emb x))
  | 0 => ⟨fun p hp => absurd hp List.not_mem_nil, fun p hp => absurd hp List.not_mem_nil, fun p hp => absurd hp List.not_mem_nil⟩
  | n + 1 => by
    have ih := pieces_at n
    by_cases h : n < k0_t1_loop.trips
    · rw [pieces, dif_pos h]
      refine ⟨fun p hp => ?_, fun p hp => ?_, fun p hp => ?_⟩
      · rcases List.mem_cons.mp hp with rfl | hp
        · exact piece4_at x0 x1 ⟨n, h⟩
        · exact ih.1 p hp
      · rcases List.mem_cons.mp hp with rfl | hp
        · exact piece5_at x0 x1 x2 ⟨n, h⟩
        · exact ih.2.1 p hp
      · rcases List.mem_cons.mp hp with rfl | hp
        · exact piece6_at x0 x1 x2 ⟨n, h⟩
        · exact ih.2.2 p hp
    · rw [pieces, dif_neg h]
      exact ih

theorem canon3 (n : ℕ) (h : ∀ y : S128x8x2048.Idx, ∃ pc ∈ (pieces x2 x0 x1 n).1, y ∈ pc.1.set) : View.canon (pieces x2 x0 x1 n).1 = G3 x0 x1 :=
  funext fun y => View.canon_apply_of_pieces (G3 x0 x1) (pieces x2 x0 x1 n).1 (pieces_at x0 x1 x2 n).1 y (h y)
theorem canon4 (n : ℕ) (h : ∀ y : S1024x2048.Idx, ∃ pc ∈ (pieces x2 x0 x1 n).2.1, y ∈ pc.1.set) : View.canon (pieces x2 x0 x1 n).2.1 = G4 x0 x1 x2 :=
  funext fun y => View.canon_apply_of_pieces (G4 x0 x1 x2) (pieces x2 x0 x1 n).2.1 (pieces_at x0 x1 x2 n).2.1 y (h y)
theorem canon5 (n : ℕ) (h : ∀ y : S8x128.Idx, ∃ pc ∈ (pieces x2 x0 x1 n).2.2, y ∈ pc.1.set) : View.canon (pieces x2 x0 x1 n).2.2 = G5 x0 x1 x2 :=
  funext fun y => View.canon_apply_of_pieces (G5 x0 x1 x2) (pieces x2 x0 x1 n).2.2 (pieces_at x0 x1 x2 n).2.2 y (h y)

/-- The three blocks the body leaves. -/
theorem outs_eq : outs x0 x1 x2 = (G3 x0 x1, G4 x0 x1 x2, G5 x0 x1 x2) := by
  have h3 : View.canon (pieces x2 x0 x1 8).1 = G3 x0 x1 := canon3 x0 x1 x2 8 (cover3 x0 x1 x2)
  have h4 : View.canon (pieces x2 x0 x1 8).2.1 = G4 x0 x1 x2 := canon4 x0 x1 x2 8 (cover4 x0 x1 x2)
  have h5 : View.canon (pieces x2 x0 x1 8).2.2 = G5 x0 x1 x2 := canon5 x0 x1 x2 8 (cover5 x0 x1 x2)
  unfold outs
  rw [h3, h4, h5]

end Cert.KernelIdeal.Block

end
-- ==== Proof.Array.lean ====
/-
  The kernel's three result arrays, element by element, from the argument arrays.
-/
module

public import proofs.«01_k».proof.Proof.Block

@[expose] public section

set_option maxRecDepth 16384

noncomputable section

namespace Cert.KernelIdeal.Array

open Idealize.ShloMosaic Idealize.ShloMosaic.TcCoe Idealize.SL.Sem Cert.KernelIdeal Cert.KernelIdeal.Gen Cert.KernelIdeal.Rows Cert.KernelIdeal.Block
open Cert.KernelIdeal.Body

variable (m : (ℓ : Loc nD τ sig) → Buf (Elt Ideal) ℓ)

/-- Row `n` of the 12288 rows of the arguments: the two inputs' rows added. -/
def argRow (x y : Vec Ideal S2x6144x2048 .bf16) (n : ℕ) (h : n < 12288) : Fin 2048 → EReal :=
  fun k => x (ix3 ⟨n / 6144, by omega⟩ ⟨n % 6144, by omega⟩ k) + y (ix3 ⟨n / 6144, by omega⟩ ⟨n % 6144, by omega⟩ k)

/-- The gains of the argument. -/
def argGain (g : Vec Ideal S2048 .f32) : Fin 2048 → EReal := fun k => g (ix1 k)

theorem idx : ∀ t : Fin cfg0.N, win0_0.index t = ![t.val, 0, 0] ∧ win0_1.index t = ![t.val, 0, 0] ∧ win0_2.index t = ![0, 0, 0]
    ∧ win0_3.index t = ![t.val, 0, 0] ∧ win0_4.index t = ![t.val, 0] ∧ win0_5.index t = ![t.val, 0] :=
  (by decide +kernel : ∀ t : Fin grid0.N, _)

theorem lt12 (t : Fin cfg0.N) : t.val < 12 := t.isLt

/-- The arguments' reshape before the launch: a row of the [2, 6144] grid of rows is a row of the [1536, 8] one. -/
theorem cast_in {α : Type} (x : S2x6144x2048.Idx → α) (h : S2x6144x2048.ShapeCasts S1536x8x2048) (a : Fin 1536) (r : Fin 8) (k : Fin 2048)
    (b : Fin 2) (s : Fin 6144) (hn : 6144 * b.val + s.val = 8 * a.val + r.val) :
    shapeCast S1536x8x2048 x h (ix3 a r k) = x (ix3 b s k) :=
  shapeCast_apply x h _ _ (by
    rw [Shape.rowMajor_val_three, Shape.rowMajor_val_three]
    show (b.val * 6144 + s.val) * 2048 + k.val = (a.val * 8 + r.val) * 2048 + k.val
    rw [show b.val * 6144 + s.val = a.val * 8 + r.val by omega])

theorem cast_out3 {α : Type} (x : S1536x8x2048.Idx → α) (h : S1536x8x2048.ShapeCasts S2x6144x2048) (a : Fin 1536) (r : Fin 8) (k : Fin 2048)
    (b : Fin 2) (s : Fin 6144) (hn : 6144 * b.val + s.val = 8 * a.val + r.val) :
    shapeCast S2x6144x2048 x h (ix3 b s k) = x (ix3 a r k) :=
  shapeCast_apply x h _ _ (by
    rw [Shape.rowMajor_val_three, Shape.rowMajor_val_three]
    show (a.val * 8 + r.val) * 2048 + k.val = (b.val * 6144 + s.val) * 2048 + k.val
    rw [show b.val * 6144 + s.val = a.val * 8 + r.val by omega])

theorem cast_out4 {α : Type} (x : S12288x2048.Idx → α) (h : S12288x2048.ShapeCasts S2x6144x2048) (n : Fin 12288) (k : Fin 2048)
    (b : Fin 2) (s : Fin 6144) (hn : 6144 * b.val + s.val = n.val) :
    shapeCast S2x6144x2048 x h (ix3 b s k) = x (ix2 n k) :=
  shapeCast_apply x h _ _ (by
    rw [Shape.rowMajor_val_three, Shape.rowMajor_val_two]
    show n.val * 2048 + k.val = (b.val * 6144 + s.val) * 2048 + k.val
    rw [show b.val * 6144 + s.val = n.val by omega])

theorem cast_out5 {α : Type} (x : S96x128.Idx → α) (h : S96x128.ShapeCasts S2x6144x1) (a : Fin 96) (p : Fin 128) (z : Fin 1)
    (b : Fin 2) (s : Fin 6144) (hn : 6144 * b.val + s.val = 128 * a.val + p.val) :
    shapeCast S2x6144x1 x h (ix3 b s z) = x (ix2 a p) :=
  shapeCast_apply x h _ _ (by
    rw [Shape.rowMajor_val_three, Shape.rowMajor_val_two]
    show a.val * 128 + p.val = (b.val * 6144 + s.val) * 1 + z.val
    omega)

theorem entry0 (c : Dev nD) : V m c main_v0 = shapeCast S1536x8x2048 (m ((c : Thread nD τ).loc main_arg0)) shapeCasts_S2x6144x2048_S1536x8x2048 := by
  show StableHlo.after hostOps0 (fun b => m (c, b)) (Proc.devRef .tc main_v0) = _
  after_results
  rfl
theorem entry1 (c : Dev nD) : V m c main_v1 = shapeCast S1536x8x2048 (m ((c : Thread nD τ).loc main_arg1)) shapeCasts_S2x6144x2048_S1536x8x2048 := by
  show StableHlo.after hostOps0 (fun b => m (c, b)) (Proc.devRef .tc main_v1) = _
  after_results
  rfl
theorem entry2 (c : Dev nD) : V m c main_v2 = shapeCast S1x1x2048 (m ((c : Thread nD τ).loc main_arg2)) shapeCasts_S2048_S1x1x2048 := by
  show StableHlo.after hostOps0 (fun b => m (c, b)) (Proc.devRef .tc main_v2) = _
  after_results
  rfl

theorem blk0 (c : Dev nD) (t : Fin cfg0.N) (a : Fin 128) (r : Fin 8) (k : Fin 2048) :
    iblk m c 0 t (ix3 a r k) = m ((c : Thread nD τ).loc main_arg0)
      (ix3 ⟨(1024 * t.val + 8 * a.val + r.val) / 6144, by have := lt12 t; omega⟩ ⟨(1024 * t.val + 8 * a.val + r.val) % 6144, by omega⟩ k) := by
  have ht := lt12 t
  have e : iblk m c 0 t (ix3 a r k) = V m c main_v0 (ix3 (⟨128 * t.val + a.val, by omega⟩ : Fin 1536) r k) := by
    blk_ext [iblk, idx t]
  rw [e, entry0]
  exact cast_in _ _ _ _ _ _ _ (by
    show 6144 * ((1024 * t.val + 8 * a.val + r.val) / 6144) + (1024 * t.val + 8 * a.val + r.val) % 6144 = 8 * (128 * t.val + a.val) + r.val
    omega)

theorem blk1 (c : Dev nD) (t : Fin cfg0.N) (a : Fin 128) (r : Fin 8) (k : Fin 2048) :
    iblk m c 1 t (ix3 a r k) = m ((c : Thread nD τ).loc main_arg1)
      (ix3 ⟨(1024 * t.val + 8 * a.val + r.val) / 6144, by have := lt12 t; omega⟩ ⟨(1024 * t.val + 8 * a.val + r.val) % 6144, by omega⟩ k) := by
  have ht := lt12 t
  have e : iblk m c 1 t (ix3 a r k) = V m c main_v1 (ix3 (⟨128 * t.val + a.val, by omega⟩ : Fin 1536) r k) := by
    blk_ext [iblk, idx t]
  rw [e, entry1]
  exact cast_in _ _ _ _ _ _ _ (by
    show 6144 * ((1024 * t.val + 8 * a.val + r.val) / 6144) + (1024 * t.val + 8 * a.val + r.val) % 6144 = 8 * (128 * t.val + a.val) + r.val
    omega)

theorem blk2 (c : Dev nD) (t : Fin cfg0.N) (k : Fin 2048) :
    iblk m c 2 t (ix3 0 0 k) = m ((c : Thread nD τ).loc main_arg2) (ix1 k) := by
  have e : iblk m c 2 t (ix3 0 0 k) = V m c main_v2 (ix3 0 0 k) := by
    blk_ext [iblk, idx t]
  rw [e, entry2]
  pointwise

theorem argRow_congr (x y : Vec Ideal S2x6144x2048 .bf16) {n n' : ℕ} (e : n = n') (h : n < 12288) (h' : n' < 12288) :
    argRow x y n h = argRow x y n' h' := by
  subst e
  rfl

/-- A row of point `t`'s input blocks is a row of the arguments. -/
theorem blkRow_eq (c : Dev nD) (t : Fin cfg0.N) (n : ℕ) (h : n < 1024) :
    blkRow (iblk m c 0 t) (iblk m c 1 t) n h
      = argRow (m ((c : Thread nD τ).loc main_arg0)) (m ((c : Thread nD τ).loc main_arg1)) (1024 * t.val + n) (by have := lt12 t; omega) := by
  funext k
  have ht := lt12 t
  have hn : 1024 * t.val + 8 * (n / 8) + n % 8 = 1024 * t.val + n := by omega
  unfold blkRow argRow
  rw [blk0, blk1]
  simp only [hn]

theorem gains_eq (c : Dev nD) (t : Fin cfg0.N) : gains (iblk m c 2 t) = argGain (m ((c : Thread nD τ).loc main_arg2)) :=
  funext fun k => blk2 m c t k

variable (x y : Vec Ideal S2x6144x2048 .bf16) (g : Vec Ideal S2048 .f32)

/-- The residual stream, as the launch leaves it. -/
def A3 : Vec Ideal S1536x8x2048 .bf16 := fun i =>
  argRow x y (8 * (i 0).val + (i 1).val) (by
    have h0 : (i 0).val < 1536 := (i 0).isLt
    have h1 : (i 1).val < 8 := (i 1).isLt
    omega) (i 2)
/-- The codes. -/
def A4 : Vec Ideal S12288x2048 .fp8e4m3 := fun i => Row.code (argRow x y (i 0).val (i 0).isLt) (argGain g) (i 1)
/-- The scales. -/
def A5 : Vec Ideal S96x128 .f32 := fun i => Row.scale (argRow x y (128 * (i 0).val + (i 1).val) (by
    have h0 : (i 0).val < 96 := (i 0).isLt
    have h1 : (i 1).val < 128 := (i 1).isLt
    omega)) (argGain g)

theorem emb3 (t : Fin cfg0.N) (a : Fin 128) (r : Fin 8) (k : Fin 2048) :
    (win0_3.blk t).view.emb (ix3 a r k) = (ix3 (⟨128 * t.val + a.val, by have := lt12 t; omega⟩ : Fin 1536) r k : S1536x8x2048.Idx) := by
  blk_ext [idx t]
theorem emb4 (t : Fin cfg0.N) (p : Fin 1024) (k : Fin 2048) :
    (win0_4.blk t).view.emb (ix2 p k) = (ix2 (⟨1024 * t.val + p.val, by have := lt12 t; omega⟩ : Fin 12288) k : S12288x2048.Idx) := by
  blk_ext [idx t]
theorem emb5 (t : Fin cfg0.N) (a : Fin 8) (p : Fin 128) :
    (win0_5.blk t).view.emb (ix2 a p) = (ix2 (⟨8 * t.val + a.val, by have := lt12 t; omega⟩ : Fin 96) p : S96x128.Idx) := by
  blk_ext [idx t]

theorem final3 (c : Dev nD) : (dats m 0 c).arrAt 3 cfg0.N = A3 (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  rw [outs_eq]
  obtain ⟨a, r, k, rfl⟩ : ∃ (a : Fin 128) (r : Fin 8) (k : Fin 2048), y = (ix3 a r k : S128x8x2048.Idx) := ⟨_, _, _, eq_ix3 y⟩
  have ht := lt12 t
  rw [emb3]
  show @HAdd.hAdd EReal EReal EReal _ (iblk m c 0 t (ix3 a r k)) (iblk m c 1 t (ix3 a r k)) = argRow _ _ (8 * (128 * t.val + a.val) + r.val) _ k
  have hn : 1024 * t.val + 8 * a.val + r.val = 8 * (128 * t.val + a.val) + r.val := by omega
  unfold argRow
  rw [blk0, blk1]
  simp only [hn]

theorem final4 (c : Dev nD) : (dats m 0 c).arrAt 4 cfg0.N
    = A4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  rw [outs_eq]
  obtain ⟨p, k, rfl⟩ : ∃ (p : Fin 1024) (k : Fin 2048), y = (ix2 p k : S1024x2048.Idx) := ⟨_, _, eq_ix2 y⟩
  rw [emb4]
  exact congrFun (congrArg₂ Row.code (blkRow_eq m c t p.val p.isLt) (gains_eq m c t)) k

theorem final5 (c : Dev nD) : (dats m 0 c).arrAt 5 cfg0.N
    = A5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  rw [outs_eq]
  obtain ⟨a, p, rfl⟩ : ∃ (a : Fin 8) (p : Fin 128), y = (ix2 a p : S8x128.Idx) := ⟨_, _, eq_ix2 y⟩
  have ht := lt12 t
  have hn : 1024 * t.val + (128 * a.val + p.val) = 128 * (8 * t.val + a.val) + p.val := by omega
  rw [emb5]
  refine (congrArg₂ Row.scale (blkRow_eq m c t (128 * a.val + p.val) (by omega)) (gains_eq m c t)).trans ?_
  exact congrArg (fun f => Row.scale f _) (argRow_congr _ _ hn _ _)

end Cert.KernelIdeal.Array

end
-- ==== Proof.Tail.lean ====
/-
  The kernel's run with its three results named: the reshapes after the launch read the launch's arrays row by row.
-/
module

public import proofs.«01_k».proof.Proof.Array

@[expose] public section

set_option maxRecDepth 16384

noncomputable section

namespace Cert.KernelIdeal.Tail

open Idealize.ShloMosaic Idealize.ShloMosaic.TcCoe Idealize.ShloMosaic.Tactic Idealize.SL.Sem Cert.KernelIdeal Cert.KernelIdeal.Gen
open Cert.KernelIdeal.Body Cert.KernelIdeal.Array

variable (m : (ℓ : Loc nD τ sig) → Buf (Elt Ideal) ℓ) (ρ : Dev nD → PrngReg)
variable (x y : Vec Ideal S2x6144x2048 .bf16) (g : Vec Ideal S2048 .f32)

/-- Row `(b, s)` of the residual stream: the two inputs' rows added. -/
def rowOf (b : Fin 2) (s : Fin 6144) : Fin 2048 → EReal := fun k => x (ix3 b s k) + y (ix3 b s k)

/-- Result 1: the residual stream. -/
def R3 : Vec Ideal S2x6144x2048 .bf16 := fun i => rowOf x y (i 0) (i 1) (i 2)
/-- Result 2: the codes. -/
def R4 : Vec Ideal S2x6144x2048 .fp8e4m3 := fun i => Row.code (rowOf x y (i 0) (i 1)) (argGain g) (i 2)
/-- Result 3: the scales. -/
def R5 : Vec Ideal S2x6144x1 .f32 := fun i => Row.scale (rowOf x y (i 0) (i 1)) (argGain g)

/-- The flat row `6144 * b + s` is row `(b, s)`. -/
theorem argRow_flat (b : Fin 2) (s : Fin 6144) {n : ℕ} (e : n = 6144 * b.val + s.val) (h : n < 12288) : argRow x y n h = rowOf x y b s := by
  have e1 : (⟨n / 6144, by omega⟩ : Fin 2) = b := Fin.ext (by show n / 6144 = b.val; omega)
  have e2 : (⟨n % 6144, by omega⟩ : Fin 6144) = s := Fin.ext (by show n % 6144 = s.val; omega)
  unfold argRow rowOf
  rw [e1, e2]

theorem out3 (h : S1536x8x2048.ShapeCasts S2x6144x2048) : shapeCast S2x6144x2048 (A3 x y) h = R3 x y := by
  funext i
  obtain ⟨b, s, k, rfl⟩ : ∃ (b : Fin 2) (s : Fin 6144) (k : Fin 2048), i = (ix3 b s k : S2x6144x2048.Idx) := ⟨_, _, _, eq_ix3 i⟩
  have hn : 6144 * b.val + s.val = 8 * ((6144 * b.val + s.val) / 8) + (6144 * b.val + s.val) % 8 := by omega
  rw [cast_out3 _ h ⟨(6144 * b.val + s.val) / 8, by omega⟩ ⟨(6144 * b.val + s.val) % 8, by omega⟩ k b s hn]
  exact congrFun (argRow_flat x y b s hn.symm _) k

theorem out4 (h : S12288x2048.ShapeCasts S2x6144x2048) : shapeCast S2x6144x2048 (A4 x y g) h = R4 x y g := by
  funext i
  obtain ⟨b, s, k, rfl⟩ : ∃ (b : Fin 2) (s : Fin 6144) (k : Fin 2048), i = (ix3 b s k : S2x6144x2048.Idx) := ⟨_, _, _, eq_ix3 i⟩
  rw [cast_out4 _ h ⟨6144 * b.val + s.val, by omega⟩ k b s rfl]
  exact congrArg (fun f => Row.code f (argGain g) k) (argRow_flat x y b s rfl _)

theorem out5 (h : S96x128.ShapeCasts S2x6144x1) : shapeCast S2x6144x1 (A5 x y g) h = R5 x y g := by
  funext i
  obtain ⟨b, s, z, rfl⟩ : ∃ (b : Fin 2) (s : Fin 6144) (z : Fin 1), i = (ix3 b s z : S2x6144x1.Idx) := ⟨_, _, _, eq_ix3 i⟩
  have hn : 6144 * b.val + s.val = 128 * ((6144 * b.val + s.val) / 128) + (6144 * b.val + s.val) % 128 := by omega
  rw [cast_out5 _ h ⟨(6144 * b.val + s.val) / 128, by omega⟩ ⟨(6144 * b.val + s.val) % 128, by omega⟩ z b s hn]
  exact congrArg (fun f => Row.scale f (argGain g)) (argRow_flat x y b s hn.symm _)

/-- The reshapes after the launch, from whatever the launch leaves. -/
theorem tail4 (W : Valuation τ sig (Elt Ideal)) : StableHlo.after (hostOps1 (F := Ideal)) W (Proc.devRef .tc main_v4)
    = shapeCast S2x6144x2048 (W (Proc.devRef .tc main_v3_0)) shapeCasts_S1536x8x2048_S2x6144x2048 := by
  after_results
  rfl
theorem tail5 (W : Valuation τ sig (Elt Ideal)) : StableHlo.after (hostOps1 (F := Ideal)) W (Proc.devRef .tc main_v5)
    = shapeCast S2x6144x2048 (W (Proc.devRef .tc main_v3_1)) shapeCasts_S12288x2048_S2x6144x2048 := by
  after_results
  rfl
theorem tail6 (W : Valuation τ sig (Elt Ideal)) : StableHlo.after (hostOps1 (F := Ideal)) W (Proc.devRef .tc main_v6)
    = shapeCast S2x6144x1 (W (Proc.devRef .tc main_v3_2)) shapeCasts_S96x128_S2x6144x1 := by
  after_results
  rfl

/-- What the launch leaves: each window's array at its contents after the last point. -/
abbrev left (c : Dev nD) : Valuation τ sig (Elt Ideal) :=
  Pipeline.withArrays spec0 c (V0 m c) fun w => (dats m 0 c).arrAt w cfg0.N

theorem arrs_inj : Function.Injective (Pipeline.arrRef spec0) := by decide

theorem left3 (c : Dev nD) : left m c (Proc.devRef .tc main_v3_0) = A3 (m ((c : Thread nD τ).loc main_arg0)) (m ((c : Thread nD τ).loc main_arg1)) :=
  (Pipeline.withArrays_arr spec0 arrs_inj c _ _ 3).trans (final3 m c)
theorem left4 (c : Dev nD) : left m c (Proc.devRef .tc main_v3_1)
    = A4 (m ((c : Thread nD τ).loc main_arg0)) (m ((c : Thread nD τ).loc main_arg1)) (m ((c : Thread nD τ).loc main_arg2)) :=
  (Pipeline.withArrays_arr spec0 arrs_inj c _ _ 4).trans (final4 m c)
theorem left5 (c : Dev nD) : left m c (Proc.devRef .tc main_v3_2)
    = A5 (m ((c : Thread nD τ).loc main_arg0)) (m ((c : Thread nD τ).loc main_arg1)) (m ((c : Thread nD τ).loc main_arg2)) :=
  (Pipeline.withArrays_arr spec0 arrs_inj c _ _ 5).trans (final5 m c)

theorem result4 (c : Dev nD) : Pipeline.afterTail₀ cfgs (dats m) 0 (V0 m) [hostOps1] c main_v4
    = R3 (m ((c : Thread nD τ).loc main_arg0)) (m ((c : Thread nD τ).loc main_arg1)) :=
  (tail4 (left m c)).trans ((congrArg (fun z => shapeCast S2x6144x2048 z shapeCasts_S1536x8x2048_S2x6144x2048) (left3 m c)).trans (out3 _ _ _))
theorem result5 (c : Dev nD) : Pipeline.afterTail₀ cfgs (dats m) 0 (V0 m) [hostOps1] c main_v5
    = R4 (m ((c : Thread nD τ).loc main_arg0)) (m ((c : Thread nD τ).loc main_arg1)) (m ((c : Thread nD τ).loc main_arg2)) :=
  (tail5 (left m c)).trans ((congrArg (fun z => shapeCast S2x6144x2048 z shapeCasts_S12288x2048_S2x6144x2048) (left4 m c)).trans (out4 _ _ _ _))
theorem result6 (c : Dev nD) : Pipeline.afterTail₀ cfgs (dats m) 0 (V0 m) [hostOps1] c main_v6
    = R5 (m ((c : Thread nD τ).loc main_arg0)) (m ((c : Thread nD τ).loc main_arg1)) (m ((c : Thread nD τ).loc main_arg2)) :=
  (tail6 (left m c)).trans ((congrArg (fun z => shapeCast S2x6144x1 z shapeCasts_S96x128_S2x6144x1) (left5 m c)).trans (out5 _ _ _ _))

/-- The kernel's run, its three results named and its arguments unchanged. -/
theorem run : θ_run defs (onTc (τ := τ) (main (F := Ideal))) ⟨m, fun _ => 0, ρ⟩ fun r => ∀ c : Dev nD,
      r.2.mem ((c : Thread nD τ).loc main_v4) = R3 (m ((c : Thread nD τ).loc main_arg0)) (m ((c : Thread nD τ).loc main_arg1))
      ∧ r.2.mem ((c : Thread nD τ).loc main_v5) = R4 (m ((c : Thread nD τ).loc main_arg0)) (m ((c : Thread nD τ).loc main_arg1)) (m ((c : Thread nD τ).loc main_arg2))
      ∧ r.2.mem ((c : Thread nD τ).loc main_v6) = R5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).2 main_v4 (Pipeline.mem_restRefs_of main_v4 (by decide) (by decide))).trans (result4 m c),
     ((h.1 c).2 main_v5 (Pipeline.mem_restRefs_of main_v5 (by decide) (by decide))).trans (result5 m c),
     ((h.1 c).2 main_v6 (Pipeline.mem_restRefs_of main_v6 (by decide) (by decide))).trans (result6 m c), h.2 c⟩)
    (θ_run_and (run_main m ρ) (unchanged m ρ))

end Cert.KernelIdeal.Tail

end
-- ==== Proof.Ref.lean ====
/-
  The reference over the reals, element by element: its three results are the same functions of the arguments' rows.
-/
module

public import proofs.«01_k».proof.Proof.Tail
public import proofs.«01_k».proof.Proof.Gen.ReferenceIdeal.Value

@[expose] public section

set_option maxRecDepth 16384

noncomputable section

namespace Cert.ReferenceIdeal.Ref

open Idealize.ShloMosaic Cert.ReferenceIdeal Cert.ReferenceIdeal.Gen
open Cert.KernelIdeal.Array (argGain)
open Cert.KernelIdeal.Tail (rowOf R3 R4 R5)

variable (x y : Vec Ideal S2x6144x2048 .bf16) (g : Vec Ideal S2048 .f32)

theorem r_apply (b : Fin 2) (s : Fin 6144) (k : Fin 2048) : k0_pay3 x y (ix3 b s k) = rowOf x y b s k := rfl

theorem y_apply (b : Fin 2) (s : Fin 6144) (k : Fin 2048) : k0_pay4 x y g (ix3 b s k) = Row.y (rowOf x y b s) (argGain g) k := by
  have e : k0_pay4 x y g (ix3 b s k) = k0_pay3 x y (ix3 b s k) * Ideal.rsqrt (Ideal.div (∑ l : Fin 2048, k0_pay3 x y (ix3 b s l) * k0_pay3 x y (ix3 b s l))
      (Ideal.ofBits .f32 0x45000000#32) + Ideal.ofBits .f32 0x358637BD#32) * g (ix1 k) := by
    pointwise [k0_pay4]
  rw [e]
  rfl

/-- The largest magnitude of each row. -/
def amax : FVec Ideal S2x6144x1 .f32 := shapeCast S2x6144x1 (multiReduction .maximumf [2] S2x6144 (absf (k0_pay4 x y g)) 0xFF800000#32 reduces_S2x6144x2048_S2x6144 (.inl rfl) rfl) shapeCasts_S2x6144_S2x6144x1

theorem a_apply (b : Fin 2) (s : Fin 6144) : amax x y g (ix3 b s 0) = Row.a (rowOf x y b s) (argGain g) := by
  have e : amax x y g (ix3 b s 0) = Finset.fold max (Ideal.ofBits .f32 4286578688#32) (fun l => FloatOps.absf (k0_pay4 x y g (ix3 b s l))) Finset.univ := by
    pointwise [amax]
  rw [e]
  unfold Row.a
  simp only [y_apply]
  rfl

/-- The exponent, from the magnitude over 448. -/
def expoOf (s : EReal) : EReal :=
  Scalar.select (IntOp.andi (FloatOps.cmpf (F := Ideal) (φ := .f32) .oge s (Ideal.ofBits .f32 0x00800000#32)) (FloatOps.cmpf (F := Ideal) (φ := .f32) .olt s (Ideal.ofBits .f32 0x7E800000#32)))
    (Ideal.liftRound Int.floor (Ideal.div (Ideal.log s) ((Real.log 2 : ℝ) : EReal)) + Ideal.ofBits .f32 0x3F800000#32) (Ideal.ofBits .f32 0x00000000#32)

theorem expoOf_eq (s : EReal) : expoOf s = Row.expo s := by
  unfold expoOf Row.expo
  rw [Ideal.ofBits_one_f32, Ideal.ofBits_zero_f32]
  rw [show FloatOps.cmpf (F := Ideal) (φ := .f32) .oge s (Ideal.ofBits .f32 0x00800000#32) = BitVec.ofBool (decide (Ideal.ofBits .f32 0x00800000#32 ≤ s)) from rfl,
    show FloatOps.cmpf (F := Ideal) (φ := .f32) .olt s (Ideal.ofBits .f32 0x7E800000#32) = BitVec.ofBool (decide (s < Ideal.ofBits .f32 0x7E800000#32)) from rfl]
  by_cases h1 : Ideal.ofBits .f32 0x00800000#32 ≤ s
  · by_cases h2 : s < Ideal.ofBits .f32 0x7E800000#32
    · rw [decide_eq_true h1, decide_eq_true h2, if_pos ⟨h1, h2⟩]
      rfl
    · rw [decide_eq_true h1, decide_eq_false h2, if_neg fun h => h2 h.2]
      rfl
  · rw [decide_eq_false h1, if_neg fun h => h1 h.1]
    by_cases h2 : s < Ideal.ofBits .f32 0x7E800000#32
    · rw [decide_eq_true h2]
      rfl
    · rw [decide_eq_false h2]
      rfl

/-- The constant the exponent divides by is the logarithm of two. -/
theorem ln2_eq : Named.named (F := Ideal) κ "ln2" (φ := .f32) 0x3F317218#32 = ((Real.log 2 : ℝ) : EReal) := by
  simp [Named.named, κ]

/-- The exponents, from the magnitudes over 448. -/
def expoV (v : FVec Ideal S2x6144x1 .f32) : FVec Ideal S2x6144x1 .f32 :=
  select (andi (cmpf .oge v (broadcast S2x6144x1 (Scalar.ofBits .f32 0x00800000#32))) (cmpf .olt v (broadcast S2x6144x1 (Scalar.ofBits .f32 0x7E800000#32))))
    (addf (floor (divf (log v) (broadcast S2x6144x1 (Named.named (F := Ideal) κ "ln2" (φ := .f32) 0x3F317218#32)))) (broadcast S2x6144x1 (Scalar.ofBits .f32 0x3F800000#32)))
    (broadcast S2x6144x1 (Scalar.ofBits .f32 0x00000000#32))

theorem expoV_apply (v : FVec Ideal S2x6144x1 .f32) (i : S2x6144x1.Idx) : expoV v i = expoOf (v i) := by
  unfold expoV
  rw [ln2_eq]
  rfl

theorem pay5_eq : k0_pay5 x y g = expoV (mulf (amax x y g) (broadcast S2x6144x1 (Scalar.ofBits .f32 0x3B124925#32))) := by
  unfold k0_pay5 expoV amax
  rfl

theorem scaled_apply (v : FVec Ideal S2x6144x1 .f32) (i : S2x6144x1.Idx) :
    mulf v (broadcast S2x6144x1 (Scalar.ofBits .f32 0x3B124925#32)) i = v i * Ideal.ofBits .f32 0x3B124925#32 := rfl

theorem e_apply (b : Fin 2) (s : Fin 6144) : k0_pay5 x y g (ix3 b s 0) = Row.expo (Row.s (rowOf x y b s) (argGain g)) := by
  rw [pay5_eq, expoV_apply, scaled_apply, a_apply, expoOf_eq]
  rfl

theorem clip_apply (w : FVec Ideal S2x6144x2048 .f32) (v : FVec Ideal S2x6144x1 .f32) (b : Fin 2) (s : Fin 6144) (k : Fin 2048) :
    k0_pay1 w v (ix3 b s k) = min (Ideal.ofBits .f32 0x43E00000#32) (max (Ideal.ofBits .f32 0xC3E00000#32) (w (ix3 b s k) * v (ix3 b s 0))) := by
  pointwise [k0_pay1]

/-- The reciprocals of the powers of two, from the exponents. -/
def invV (v : FVec Ideal S2x6144x1 .f32) : FVec Ideal S2x6144x1 .f32 :=
  exp2 (subf (broadcast S2x6144x1 (Scalar.ofBits .f32 0x00000000#32)) v)

theorem invV_apply (v : FVec Ideal S2x6144x1 .f32) (i : S2x6144x1.Idx) : invV v i = Ideal.exp2 (0 - v i) := by
  have e : invV v i = Ideal.exp2 (Ideal.ofBits .f32 0x00000000#32 - v i) := rfl
  rw [e, Ideal.ofBits_zero_f32]

theorem pay6_eq : k0_pay6 x y g = invV (k0_pay5 x y g) := by
  unfold k0_pay6 invV
  rfl

theorem codes_apply (b : Fin 2) (s : Fin 6144) (k : Fin 2048) :
    k0_pay1 (k0_pay4 x y g) (k0_pay6 x y g) (ix3 b s k) = Row.code (rowOf x y b s) (argGain g) k := by
  rw [clip_apply, pay6_eq, invV_apply, y_apply, e_apply]
  rfl

theorem exp2_apply (v : FVec Ideal S2x6144x1 .f32) (i : S2x6144x1.Idx) : k0_pay2 v i = Ideal.exp2 (v i) := rfl

theorem scales_apply (b : Fin 2) (s : Fin 6144) : k0_pay2 (k0_pay5 x y g) (ix3 b s 0) = Row.scale (rowOf x y b s) (argGain g) := by
  rw [exp2_apply, e_apply]
  rfl

theorem G3_eq : Value.G3 x y g = R3 x y := by
  funext i
  obtain ⟨b, s, k, rfl⟩ : ∃ (b : Fin 2) (s : Fin 6144) (k : Fin 2048), i = (ix3 b s k : S2x6144x2048.Idx) := ⟨_, _, _, eq_ix3 i⟩
  rfl

theorem G4_eq : Value.G4 x y g = R4 x y g := by
  funext i
  obtain ⟨b, s, k, rfl⟩ : ∃ (b : Fin 2) (s : Fin 6144) (k : Fin 2048), i = (ix3 b s k : S2x6144x2048.Idx) := ⟨_, _, _, eq_ix3 i⟩
  exact codes_apply x y g b s k

theorem G5_eq : Value.G5 x y g = R5 x y g := by
  funext i
  obtain ⟨b, s, z, rfl⟩ : ∃ (b : Fin 2) (s : Fin 6144) (z : Fin 1), i = (ix3 b s z : S2x6144x1.Idx) := ⟨_, _, _, eq_ix3 i⟩
  obtain rfl : z = 0 := Subsingleton.elim _ _
  exact scales_apply x y g b s

end Cert.ReferenceIdeal.Ref

end
-- ==== Proof.Floats.Chunk.lean ====
/-
  What one trip of the kernel's loop computes, as functions of what it loads: the sixteen partial sums of squares the
  body builds lane block by lane block are one definition (`grp`) at sixteen row groups, and the trip's three stored
  payloads are `chunkCodes`, `chunkScales` and the residual stream itself over it.
-/
module

public import proofs.«01_k».proof.Proof.Ref
public import proofs.«01_k».proof.Proof.Gen.Kernel.Skeleton
public import proofs.«01_k».proof.Proof.Gen.Kernel

@[expose] public section

noncomputable section

namespace Cert.Kernel.Chunk

open Idealize.ShloMosaic Cert.Kernel Cert.Kernel.Gen

variable {F : FTy → Type} [FloatOps F]

theorem slc (g c : Fin 16) : S16x8x2048.Slices ![g.val, 0, 128 * c.val] S1x8x128 :=
  ⟨rfl, fun a => by
    match a with
    | ⟨0, _⟩ => show g.val + 1 ≤ 16; omega
    | ⟨1, _⟩ => show 0 + 8 ≤ 8; omega
    | ⟨2, _⟩ => show 128 * c.val + 128 ≤ 2048; omega⟩

/-- Lane block `c` (128 lanes) of row group `g` (8 rows), squared elementwise. -/
def sqr (v19 : FVec F S16x8x2048 .f32) (g c : Fin 16) : FVec F S8x128 .f32 :=
  mulf (shapeCast S8x128 (extractStridedSlice S1x8x128 ![g.val, 0, 128 * c.val] v19 (slc g c)) shapeCasts_S1x8x128_S8x128)
    (shapeCast S8x128 (extractStridedSlice S1x8x128 ![g.val, 0, 128 * c.val] v19 (slc g c)) shapeCasts_S1x8x128_S8x128)

/-- Row group `g`: the even lane blocks' squares added up, the odd ones', and the two sums added. -/
def grp (v19 : FVec F S16x8x2048 .f32) (g : Fin 16) : FVec F S8x128 .f32 :=
  addf
    (addf (addf (addf (addf (addf (addf (addf (sqr v19 g 0) (sqr v19 g 2)) (sqr v19 g 4)) (sqr v19 g 6)) (sqr v19 g 8)) (sqr v19 g 10)) (sqr v19 g 12)) (sqr v19 g 14))
    (addf (addf (addf (addf (addf (addf (addf (sqr v19 g 1) (sqr v19 g 3)) (sqr v19 g 5)) (sqr v19 g 7)) (sqr v19 g 9)) (sqr v19 g 11)) (sqr v19 g 13)) (sqr v19 g 15))

theorem group0 (v17 : Vec F S16x8x2048 .bf16) : (k0_pay8 (k0_pay4 v17) (k0_pay5 v17) (k0_pay6 v17) (k0_pay7 v17)) = grp (k0_pay4 v17) 0 := rfl
theorem group1 (v19 : FVec F S16x8x2048 .f32) : (k0_pay12 v19 (k0_pay9 v19) (k0_pay10 v19) (k0_pay11 v19)) = grp v19 1 := rfl
theorem group2 (v19 : FVec F S16x8x2048 .f32) : (k0_pay17 v19 (k0_pay13 v19) (k0_pay14 v19) (k0_pay15 v19) (k0_pay16 v19)) = grp v19 2 := rfl
theorem group3 (v19 : FVec F S16x8x2048 .f32) : (k0_pay21 v19 (k0_pay18 v19) (k0_pay19 v19) (k0_pay20 v19)) = grp v19 3 := rfl
theorem group4 (v19 : FVec F S16x8x2048 .f32) : (k0_pay25 v19 (k0_pay22 v19) (k0_pay23 v19) (k0_pay24 v19)) = grp v19 4 := rfl
theorem group5 (v19 : FVec F S16x8x2048 .f32) : (k0_pay30 v19 (k0_pay26 v19) (k0_pay27 v19) (k0_pay28 v19) (k0_pay29 v19)) = grp v19 5 := rfl
theorem group6 (v19 : FVec F S16x8x2048 .f32) : (k0_pay33 v19 (k0_pay31 v19) (k0_pay32 v19)) = grp v19 6 := rfl
theorem group7 (v19 : FVec F S16x8x2048 .f32) : (k0_pay38 v19 (k0_pay34 v19) (k0_pay35 v19) (k0_pay36 v19) (k0_pay37 v19)) = grp v19 7 := rfl
theorem group8 (v19 : FVec F S16x8x2048 .f32) : (k0_pay42 v19 (k0_pay39 v19) (k0_pay40 v19) (k0_pay41 v19)) = grp v19 8 := rfl
theorem group9 (v19 : FVec F S16x8x2048 .f32) : (k0_pay45 v19 (k0_pay43 v19) (k0_pay44 v19)) = grp v19 9 := rfl
theorem group10 (v19 : FVec F S16x8x2048 .f32) : (k0_pay49 (k0_pay47 v19 (k0_pay46 v19)) (k0_pay48 v19)) = grp v19 10 := rfl
theorem group11 (v19 : FVec F S16x8x2048 .f32) : (k0_pay54 (k0_pay50 v19) (k0_pay51 v19) (k0_pay52 v19) (k0_pay53 v19)) = grp v19 11 := rfl
theorem group12 (v19 : FVec F S16x8x2048 .f32) : (k0_pay58 v19 (k0_pay55 v19) (k0_pay56 v19) (k0_pay57 v19)) = grp v19 12 := rfl
theorem group13 (v19 : FVec F S16x8x2048 .f32) : (k0_pay62 v19 (k0_pay59 v19) (k0_pay60 v19) (k0_pay61 v19)) = grp v19 13 := rfl
theorem group14 (v19 : FVec F S16x8x2048 .f32) : (k0_pay67 v19 (k0_pay63 v19) (k0_pay64 v19) (k0_pay65 v19) (k0_pay66 v19)) = grp v19 14 := rfl

/-- The sixteen groups' sums stacked. -/
def stack (v19 : FVec F S16x8x2048 .f32) : FVec F S16x8x128 .f32 :=
  concatenate S16x8x128 0 [⟨S1x8x128, shapeCast S1x8x128 (grp v19 0) shapeCasts_S8x128_S1x8x128⟩, ⟨S1x8x128, shapeCast S1x8x128 (grp v19 1) shapeCasts_S8x128_S1x8x128⟩, ⟨S1x8x128, shapeCast S1x8x128 (grp v19 2) shapeCasts_S8x128_S1x8x128⟩, ⟨S1x8x128, shapeCast S1x8x128 (grp v19 3) shapeCasts_S8x128_S1x8x128⟩, ⟨S1x8x128, shapeCast S1x8x128 (grp v19 4) shapeCasts_S8x128_S1x8x128⟩, ⟨S1x8x128, shapeCast S1x8x128 (grp v19 5) shapeCasts_S8x128_S1x8x128⟩, ⟨S1x8x128, shapeCast S1x8x128 (grp v19 6) shapeCasts_S8x128_S1x8x128⟩, ⟨S1x8x128, shapeCast S1x8x128 (grp v19 7) shapeCasts_S8x128_S1x8x128⟩, ⟨S1x8x128, shapeCast S1x8x128 (grp v19 8) shapeCasts_S8x128_S1x8x128⟩, ⟨S1x8x128, shapeCast S1x8x128 (grp v19 9) shapeCasts_S8x128_S1x8x128⟩, ⟨S1x8x128, shapeCast S1x8x128 (grp v19 10) shapeCasts_S8x128_S1x8x128⟩, ⟨S1x8x128, shapeCast S1x8x128 (grp v19 11) shapeCasts_S8x128_S1x8x128⟩, ⟨S1x8x128, shapeCast S1x8x128 (grp v19 12) shapeCasts_S8x128_S1x8x128⟩, ⟨S1x8x128, shapeCast S1x8x128 (grp v19 13) shapeCasts_S8x128_S1x8x128⟩, ⟨S1x8x128, shapeCast S1x8x128 (grp v19 14) shapeCasts_S8x128_S1x8x128⟩, ⟨S1x8x128, shapeCast S1x8x128 (grp v19 15) shapeCasts_S8x128_S1x8x128⟩] concatenates_S1x8x128_S1x8x128_S1x8x128_S1x8x128_S1x8x128_S1x8x128_S1x8x128_S1x8x128_S1x8x128_S1x8x128_S1x8x128_S1x8x128_S1x8x128_S1x8x128_S1x8x128_S1x8x128_S16x8x128_d0

/-- The normalised, gained rows of one trip: the root mean square of each row from the stacked sums. -/
def chunkY (gain : Vec F S1x1x2048 .f32) (v19 : FVec F S16x8x2048 .f32) : FVec F S16x8x2048 .f32 :=
  mulf (mulf v19 (broadcastTo S16x8x2048
    (rsqrt (addf (mulf (shapeCast S16x8x1 (multiReduction .add [2] S16x8 (stack v19) 0x00000000#32 reduces_S16x8x128_S16x8 (.inl rfl) rfl) shapeCasts_S16x8_S16x8x1)
      (broadcast S16x8x1 (Scalar.ofBits .f32 0x3A000000#32))) (broadcast S16x8x1 (Scalar.ofBits .f32 0x358637BD#32))))
    broadcasts_S16x8x1_S16x8x2048)) (broadcastTo S16x8x2048 (shapeCast S1x1x2048 gain shapeCasts_S1x1x2048_S1x1x2048) broadcasts_S1x1x2048_S16x8x2048)

/-- Each row's largest magnitude. -/
def chunkA (gain : Vec F S1x1x2048 .f32) (v19 : FVec F S16x8x2048 .f32) : FVec F S16x8x1 .f32 :=
  shapeCast S16x8x1 (multiReduction .maximumf [2] S16x8 (absf (chunkY gain v19)) 0xFF800000#32 reduces_S16x8x2048_S16x8 (.inl rfl) rfl) shapeCasts_S16x8_S16x8x1

/-- The magnitude over the format's largest value: what the row's power of two is taken of. -/
def chunkS (gain : Vec F S1x1x2048 .f32) (v19 : FVec F S16x8x2048 .f32) : FVec F S16x8x1 .f32 :=
  mulf (chunkA gain v19) (broadcast S16x8x1 (Scalar.ofBits .f32 0x3B124925#32))

theorem pay71_eq (gain : Vec F S1x1x2048 .f32) (v19 : FVec F S16x8x2048 .f32) :
    k0_pay71 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkY gain v19 := rfl
theorem pay72_eq (gain : Vec F S1x1x2048 .f32) (v19 : FVec F S16x8x2048 .f32) :
    k0_pay72 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkA gain v19 := rfl
theorem pay73_eq (gain : Vec F S1x1x2048 .f32) (v19 : FVec F S16x8x2048 .f32) :
    k0_pay73 (k0_pay1 gain) v19 (grp v19 0) (grp v19 1) (grp v19 2) (grp v19 3) (grp v19 4) (grp v19 5) (grp v19 6) (grp v19 7) (grp v19 8) (grp v19 9) (grp v19 10) (grp v19 11) (grp v19 12) (grp v19 13) (grp v19 14) (k0_pay68 v19) (k0_pay69 v19) (k0_pay70 v19) = chunkS gain v19 := rfl

/-- The scale's bits: the exponent search over the magnitudes, then the field moved into place. -/
def scaleBits (a s : FVec F S16x8x1 .f32) : IVec S16x8x1 32 := k0_pay77 a s (k0_pay76 s k0_pay74 k0_pay75 23#32) 1#32
/-- The codes one trip stores. -/
def chunkCodes (gain : Vec F S1x1x2048 .f32) (v19 : FVec F S16x8x2048 .f32) : FVec F S128x2048 .fp8e4m3 :=
  k0_pay78 (chunkY gain v19) (chunkA gain v19) (chunkS gain v19) (k0_pay76 (chunkS gain v19) k0_pay74 k0_pay75 23#32) 1#32
/-- The scales one trip stores. -/
def chunkScales (gain : Vec F S1x1x2048 .f32) (v19 : FVec F S16x8x2048 .f32) : FVec F S1x128 .f32 :=
  k0_pay2 k0_pay79 (Scalar.ofBits .f32 0x00000000#32) (k0_pay80 (chunkA gain v19) (chunkS gain v19) (k0_pay76 (chunkS gain v19) k0_pay74 k0_pay75 23#32) 1#32)

end Cert.Kernel.Chunk

end
-- ==== Proof.Floats.Trip.lean ====
/-
  One trip of the kernel's loop as a list of stores: what the generated trip found is one store per output, of
  `Chunk`'s payloads, and does not depend on what the outputs' buffers held (the body reads the residual stream back,
  but only what it has just stored). So all the trips' stores together are an explicit list, `pieces`.
-/
module

public import proofs.«01_k».proof.Proof.Floats.Chunk
public import proofs.«01_k».proof.Proof.Gen.Kernel.Frame.Runs
public import Idealize.ShloMosaic.Lib.Pipeline.Value

@[expose] public section

set_option maxRecDepth 16384

noncomputable section

namespace Cert.Kernel.Trip

open Idealize.ShloMosaic Idealize.ShloMosaic.TcCoe Idealize.SL.Sem
open Cert.Kernel Cert.Kernel.Gen Cert.Kernel.Chunk

variable {F : FTy → Type} [FloatOps F]

/-- Trip `k`'s rectangle of the row-group arrays. -/
abbrev R1 (k : Fin k0_t1_loop.trips) : Rect S128x8x2048 := Rect.unit (s := S128x8x2048) (k0_off1 k) S16x8x2048.size (k0_off1_inb k)
/-- Trip `k`'s rectangle of the codes. -/
abbrev R2 (k : Fin k0_t1_loop.trips) : Rect S1024x2048 := Rect.unit (s := S1024x2048) (k0_off2 k) S128x2048.size (k0_off2_inb k)
/-- Trip `k`'s row of the scales. -/
abbrev R3 (k : Fin k0_t1_loop.trips) : Rect S8x128 := Rect.unit (s := S8x128) (k0_off3 k) S1x128.size (k0_off3_inb k)

/-- The residual stream of trip `k`: the two inputs' rows added. -/
def rows (x0 x1 : Vec F S128x8x2048 .bf16) (k : Fin k0_t1_loop.trips) : Vec F S16x8x2048 .bf16 :=
  k0_pay3 (View.ld x0 (R1 k)) (View.ld x1 (R1 k))

/-- What trip `k` stores into the residual stream. -/
def piece4 (x0 x1 : Vec F S128x8x2048 .bf16) (k : Fin k0_t1_loop.trips) : View.Piece (Elt F) S128x8x2048 .bf16 := ⟨R1 k, rows x0 x1 k⟩
/-- What trip `k` stores into the codes. -/
def piece5 (x0 x1 : Vec F S128x8x2048 .bf16) (v0 : Vec F S1x1x2048 .f32) (k : Fin k0_t1_loop.trips) : View.Piece (Elt F) S1024x2048 .fp8e4m3 :=
  ⟨R2 k, chunkCodes v0 (k0_pay4 (rows x0 x1 k))⟩
/-- What trip `k` stores into the scales. -/
def piece6 (x0 x1 : Vec F S128x8x2048 .bf16) (v0 : Vec F S1x1x2048 .f32) (k : Fin k0_t1_loop.trips) : View.Piece (Elt F) S8x128 .f32 :=
  ⟨R3 k, chunkScales v0 (k0_pay4 (rows x0 x1 k))⟩

section
variable (c : Dev nD) (i : grid0.Coords) (arg1 : Memref sig .tc .vmem S128x8x2048 .bf16) (harg1 : arg1.IsWhole) (arg2 : Memref sig .tc .vmem S128x8x2048 .bf16) (harg2 : arg2.IsWhole) (arg3 : Memref sig .tc .vmem S1x1x2048 .f32) (harg3 : arg3.IsWhole) (arg4 : Memref sig .tc .vmem S128x8x2048 .bf16) (harg4 : arg4.IsWhole) (arg5 : Memref sig .tc .vmem S1024x2048 .fp8e4m3) (harg5 : arg5.IsWhole) (arg6 : Memref sig .tc .vmem S8x128 .f32) (harg6 : arg6.IsWhole) (v0 : Vec F S1x1x2048 .f32) (x0 x1 : Vec F S128x8x2048 .bf16)

theorem tripL_eq (k : Fin k0_t1_loop.trips) (f4 : BufTy.Contents (Elt F) arg4.view.ty) (f5 : BufTy.Contents (Elt F) arg5.view.ty) (f6 : BufTy.Contents (Elt F) arg6.view.ty) :
    tripL_k0_t1 (F := F) Variants.none c none i arg1 harg1 arg2 harg2 arg3 harg3 arg4 harg4 arg5 harg5 arg6 harg6 v0 (harg1.unread x0) (harg2.unread x1) k f4 f5 f6
      = ([piece4 x0 x1 k], [piece5 x0 x1 v0 k], [piece6 x0 x1 v0 k]) := by
  unfold tripL_k0_t1 trip_k0_t1
  dsimp only
  sl_unfold_words
  simp only [View.readCov_cons_toLoadRect, View.readAt_eq_ld, harg1.read_unread, harg2.read_unread]
  rfl

/-- The stores of the trips before `n`, last first. -/
def pieces (v0 : Vec F S1x1x2048 .f32) (x0 x1 : Vec F S128x8x2048 .bf16) : ℕ → List (View.Piece (Elt F) S128x8x2048 .bf16) × List (View.Piece (Elt F) S1024x2048 .fp8e4m3) × List (View.Piece (Elt F) S8x128 .f32)
  | 0 => ([], [], [])
  | n + 1 =>
    if h : n < k0_t1_loop.trips then
      (piece4 x0 x1 ⟨n, h⟩ :: (pieces v0 x0 x1 n).1, piece5 x0 x1 v0 ⟨n, h⟩ :: (pieces v0 x0 x1 n).2.1, piece6 x0 x1 v0 ⟨n, h⟩ :: (pieces v0 x0 x1 n).2.2)
    else pieces v0 x0 x1 n

theorem pb_eq (G4 : BufTy.Contents (Elt F) arg4.view.ty) (G5 : BufTy.Contents (Elt F) arg5.view.ty) (G6 : BufTy.Contents (Elt F) arg6.view.ty) :
    ∀ n : ℕ, pb_k0_t1 (F := F) Variants.none c none i arg1 harg1 arg2 harg2 arg3 harg3 arg4 harg4 arg5 harg5 arg6 harg6 v0 (harg1.unread x0) (harg2.unread x1) G4 G5 G6 n = pieces v0 x0 x1 n
  | 0 => rfl
  | n + 1 => by
    by_cases h : n < k0_t1_loop.trips
    · have e := pb_k0_t1_succ (F := F) Variants.none c none i arg1 harg1 arg2 harg2 arg3 harg3 arg4 harg4 arg5 harg5 arg6 harg6 v0 (harg1.unread x0) (harg2.unread x1) G4 G5 G6 ⟨n, h⟩
      rw [tripL_eq] at e
      rw [e, pb_eq G4 G5 G6 n, pieces, dif_pos h]
      rfl
    · rw [pb_k0_t1.eq_2, pieces, dif_neg h]
      unfold pb_k0_t1Step
      rw [dif_neg h]
      exact pb_eq G4 G5 G6 n
end

end Cert.Kernel.Trip

end
-- ==== Proof.Floats.Run.lean ====
/-
  The kernel's body run once at a grid point: whatever the outputs' buffers held, it leaves in them the stores of the
  eight trips (`Trip.pieces`).
-/
module

public import proofs.«01_k».proof.Proof.Floats.Trip
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Chunk Cert.Kernel.Trip

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

set_option maxHeartbeats 1000000 in
theorem kernelRun (c : Dev nD) (i : grid0.Coords) (arg1 : Memref sig .tc .vmem S128x8x2048 .bf16) (harg1 : arg1.IsWhole) (arg2 : Memref sig .tc .vmem S128x8x2048 .bf16) (harg2 : arg2.IsWhole) (arg3 : Memref sig .tc .vmem S1x1x2048 .f32) (harg3 : arg3.IsWhole) (arg4 : Memref sig .tc .vmem S128x8x2048 .bf16) (harg4 : arg4.IsWhole) (arg5 : Memref sig .tc .vmem S1024x2048 .fp8e4m3) (harg5 : arg5.IsWhole) (arg6 : Memref sig .tc .vmem S8x128 .f32) (harg6 : arg6.IsWhole)
    (x0 : Vec F S128x8x2048 .bf16) (x1 : Vec F S128x8x2048 .bf16) (x2 : Vec F S1x1x2048 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f (pieces x2 x0 x1 8).1) ∗ (∃ f, arg5.view.loc (c : Thread nD τ) ↦[arg5.view.set]{fullShare} arg5.view.writes (Elt F) f (pieces x2 x0 x1 8).2.1) ∗ (∃ f, arg6.view.loc (c : Thread nD τ) ↦[arg6.view.set]{fullShare} arg6.view.writes (Elt F) f (pieces x2 x0 x1 8).2.2)) -∗ K ⟨⟩))
          ⊢ wp frame (wpE (defs₀ (F := F)) Variants.none c none) E (cc0_add_rmsnorm_fp8 i arg1 harg1 arg2 harg2 arg3 harg3 arg4 harg4 arg5 harg5 arg6 harg6) K := by
  simp only [cc0_add_rmsnorm_fp8_eq_skeleton]; unfold cc0_add_rmsnorm_fp8_skel
  have hv : arg3.view.readAt (Elt F) (Rect.unit (s := S1x1x2048) ![0, 0, 0] S1x1x2048.size inb_S1x1x2048_S1x1x2048_0_0_0).toLoadRect (harg3.unread x2) = x2 := by
    rw [View.readAt_eq_ld, harg3.read_unread, View.ld_unit_zero (S := S1x1x2048) hz3]
  have htr : Scf.trips k0_t1_loop.lb k0_t1_loop.ub k0_t1_loop.st = 8 := by decide +kernel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  rw [pb_eq, htr]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]; · iexists _; iexact H3
  isplitl [H4]; · iexists _; iexact H4
  iexists _; iexact H5

end Cert.Kernel.Run

end
-- ==== Proof.Floats.Body.lean ====
/-
  The kernel's launch in floating point: what the output blocks hold after the body at each grid point (`outs`, from the eight
  trips' stores), the body obligation, the run of the whole program and its frame.
-/
module

public import proofs.«01_k».proof.Proof.Floats.Run
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Chunk Cert.Kernel.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the eight trips leave in each output's block -/

/-- The eight trips' stores into output 1 tile its block. -/
theorem cover3 (x0 : Vec F S128x8x2048 .bf16) (x1 : Vec F S128x8x2048 .bf16) (x2 : Vec F S1x1x2048 .f32) (y : S128x8x2048.Idx) :
    ∃ pc ∈ (pieces x2 x0 x1 8).1, y ∈ pc.1.set :=
  View.cover_of_tiledL (pieces x2 x0 x1 8).1 S16x8x2048.size (by sl_kernel_rfl) y

/-- The eight trips' stores into output 2 tile its block. -/
theorem cover4 (x0 : Vec F S128x8x2048 .bf16) (x1 : Vec F S128x8x2048 .bf16) (x2 : Vec F S1x1x2048 .f32) (y : S1024x2048.Idx) :
    ∃ pc ∈ (pieces x2 x0 x1 8).2.1, y ∈ pc.1.set :=
  View.cover_of_tiledL (pieces x2 x0 x1 8).2.1 S128x2048.size (by sl_kernel_rfl) y

/-- The eight trips' stores into output 3 tile its block. -/
theorem cover5 (x0 : Vec F S128x8x2048 .bf16) (x1 : Vec F S128x8x2048 .bf16) (x2 : Vec F S1x1x2048 .f32) (y : S8x128.Idx) :
    ∃ pc ∈ (pieces x2 x0 x1 8).2.2, y ∈ pc.1.set :=
  View.cover_of_tiledL (pieces x2 x0 x1 8).2.2 S1x128.size (by sl_kernel_rfl) y

/-- What the three outputs' blocks hold after the body, from the input blocks. -/
def outs (x0 : Vec F S128x8x2048 .bf16) (x1 : Vec F S128x8x2048 .bf16) (x2 : Vec F S1x1x2048 .f32) :
    Vec F S128x8x2048 .bf16 × Vec F S1024x2048 .fp8e4m3 × Vec F S8x128 .f32 :=
  (View.canon (pieces x2 x0 x1 8).1, View.canon (pieces x2 x0 x1 8).2.1, View.canon (pieces x2 x0 x1 8).2.2)

/-! ## What the outputs hold after each point -/

/-- What the outputs' staging buffers hold after the body at point `t` (as a tuple, in window order): the run's contents at
    the point's memrefs and input blocks. -/
def outsAt0 (c : Dev nD) (t : Fin cfg0.N) : Vec F S128x8x2048 .bf16 × Vec F S1024x2048 .fp8e4m3 × Vec F S8x128 .f32 :=
  outs (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t).1
    | ⟨4, _⟩ => (outsAt0 m c t).2.1
    | ⟨5, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t).1 := by dsimp only [dats]
theorem after0_4 (c : Dev nD) (t : Fin cfg0.N) : (dats m 0 c).after 4 t = (outsAt0 m c t).2.1 := by dsimp only [dats]
theorem after0_5 (c : Dev nD) (t : Fin cfg0.N) : (dats m 0 c).after 5 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold outs; dsimp only
  iintro ⟨HΦ, Ho, ⟨%d0, H0⟩, ⟨%d1, H1⟩, ⟨%d2, H2⟩, ⟨%d3, H3⟩, ⟨%d4, H4⟩, ⟨%d5, H5⟩⟩
  iapply (Run.kernelRun c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover3 _ _ _)
  isplitl [H4]
  · unfold owns; iexists _; isplitr
    swap; · iexact H4
    ipureintro; exact View.read_writes_eq_canon _ _ _ (cover4 _ _ _)
  unfold owns; iexists _; isplitr
  swap; · iexact H5
  ipureintro; exact View.read_writes_eq_canon _ _ _ (cover5 _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Body.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.lean ====
/- The claims of this certificate, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ref
public import proofs.«01_k».proof.Proof.Floats.Body
public import Idealize.ShloMosaic.Adequacy
public import Idealize.ShloMosaic.Init

@[expose] public section

noncomputable section

namespace Cert.Proof

open Idealize.ShloMosaic Idealize.SL.Sem Cert.Kernel

/-- The kernel and the reference end with the same three results, from any arguments: both are `R3`, `R4`, `R5` of them. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, Cert.KernelIdeal.Tail.run m g, (θ_run _ _ _).mono (fun r h c => ?_) (Cert.ReferenceIdeal.Value.run m' g')⟩
  obtain ⟨h0, h1, h2, ha⟩ := h c
  obtain ⟨e0, e1, e2⟩ := hargs c
  refine ⟨h0.trans ?_, h1.trans ?_, h2.trans ?_, ha⟩
  · rw [Cert.ReferenceIdeal.Ref.G3_eq]
    exact congrArg₂ Cert.KernelIdeal.Tail.R3 e0 e1
  · rw [Cert.ReferenceIdeal.Ref.G4_eq]
    exact (congrArg₂ (fun x y => Cert.KernelIdeal.Tail.R4 x y _) e0 e1).trans (congrArg (Cert.KernelIdeal.Tail.R4 _ _) e2)
  · rw [Cert.ReferenceIdeal.Ref.G5_eq]
    exact (congrArg₂ (fun x y => Cert.KernelIdeal.Tail.R5 x y _) e0 e1).trans (congrArg (Cert.KernelIdeal.Tail.R5 _ _) e2)

theorem claim : Cert.Claim :=
  ⟨Cert.Kernel.Gen.facts, Cert.KernelIdeal.Gen.facts, Cert.ReferenceIdeal.Gen.facts,
    fun m ρ _ => Cert.Kernel.Body.frame m ρ,
    fun m ρ _ => Cert.KernelIdeal.Body.frame m ρ,
    fun m ρ _ => Cert.ReferenceIdeal.Gen.frame m ρ,
    trivial, algebraic⟩

end Cert.Proof

end
